-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_image_finite [hPre_image_finite : Cert.Pre_image_finite.Facts] (m : (ℓ : Loc Cert.KernelIdeal.nD Cert.KernelIdeal.τ Cert.KernelIdeal.sig) → Buf (Elt Ideal) ℓ) : Prop :=
  ∀ c : Dev Cert.KernelIdeal.nD,
    (Cert.Pre_image_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_image_finite [hPre_image_finite : Cert.Pre_image_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_image_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_image_finite [hKernelIdeal : Cert.KernelIdeal.Facts] [hPre_image_finite : Cert.Pre_image_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_image_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_image_finite [hReferenceIdeal : Cert.ReferenceIdeal.Facts] [hPre_image_finite : Cert.Pre_image_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_image_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "nhalf_log2e" .f32 0xBF38AA3B#32 (((-1 / 2) * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_image_finite [hKernelIdeal : Cert.KernelIdeal.Facts] [hReferenceIdeal : Cert.ReferenceIdeal.Facts] [hPre_image_finite : Cert.Pre_image_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_image_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_image_finite : Cert.Pre_image_finite.Facts),
    quiescent_Kernel (hKernel := hKernel)
    ∧ quiescent_KernelIdeal (hKernelIdeal := hKernelIdeal)
    ∧ quiescent_KernelIdeal_pre_image_finite (hKernelIdeal := hKernelIdeal) (hPre_image_finite := hPre_image_finite)
    ∧ quiescent_ReferenceIdeal (hReferenceIdeal := hReferenceIdeal)
    ∧ quiescent_ReferenceIdeal_pre_image_finite (hReferenceIdeal := hReferenceIdeal) (hPre_image_finite := hPre_image_finite)
    ∧ preserves_Kernel_KernelIdeal
    ∧ algebraic_KernelIdeal_ReferenceIdeal_pre_image_finite (hKernelIdeal := hKernelIdeal) (hReferenceIdeal := hReferenceIdeal) (hPre_image_finite := hPre_image_finite)
-- ==== Pre_image_finite.lean ====
abbrev S2x21x80x80 : Shape := ⟨4, ![2, 21, 80, 80]⟩
abbrev S2x3x80x80 : Shape := ⟨4, ![2, 3, 80, 80]⟩
abbrev S_ : Shape := ⟨0, ![]⟩

class Facts : Prop where
  bcast_S_S2x3x80x80 : S_.BroadcastsInDim S2x3x80x80 (![] : Fin 0 → Fin S2x3x80x80.rank)
  reducesTo_S2x3x80x80_S_d0_1_2_3 : S2x3x80x80.ReducesTo [0, 1, 2, 3] S_
  h_S_ : 0 < S_.numel

variable [Facts]

def fn {F : FTy → Type} [FloatOps F] (main_arg0 : FVec F S2x21x80x80 .f32) (main_arg1 : FVec F S2x3x80x80 .f32) : IVec S_ 1 :=
  let main_v0 : FVec F S2x3x80x80 .f32 := Host.absf main_arg1
  let main_cst : FVec F S_ .f32 := constant S_ .f32 0x7F800000#32
  let main_v1 : FVec F S2x3x80x80 .f32 := broadcastInDim S2x3x80x80 ![] bcast_S_S2x3x80x80 main_cst
  let main_v2 : IVec S2x3x80x80 1 := cmpf .olt main_v0 main_v1
  let main_c : IVec S_ 1 := constantI S_ 1 1#1
  let main_v3 : IVec S_ 1 := (fun x v => Host.reduce IntOp.andi x v reducesTo_S2x3x80x80_S_d0_1_2_3 h_S_) main_v2 main_c
  main_v3
-- ==== Kernel.lean ====
abbrev S2x21x80x80 : Shape := ⟨4, ![2, 21, 80, 80]⟩
abbrev S2x3x80x80 : Shape := ⟨4, ![2, 3, 80, 80]⟩
abbrev S80x80 : Shape := ⟨2, ![80, 80]⟩
abbrev S1x80x80 : Shape := ⟨3, ![1, 80, 80]⟩
abbrev S2x80x80 : Shape := ⟨3, ![2, 80, 80]⟩
abbrev S2x6400 : Shape := ⟨2, ![2, 6400]⟩
abbrev S_ : Shape := ⟨0, ![]⟩
abbrev S2x3x6400 : Shape := ⟨3, ![2, 3, 6400]⟩
abbrev S1x2x6400 : Shape := ⟨3, ![1, 2, 6400]⟩
abbrev S2x2x6400 : Shape := ⟨3, ![2, 2, 6400]⟩
abbrev S2x8x6400 : Shape := ⟨3, ![2, 8, 6400]⟩
abbrev S2x21x6400 : Shape := ⟨3, ![2, 21, 6400]⟩
abbrev S1x8x1280 : Shape := ⟨3, ![1, 8, 1280]⟩
abbrev S1x21x6400 : Shape := ⟨3, ![1, 21, 6400]⟩
abbrev S21x6400 : Shape := ⟨2, ![21, 6400]⟩
abbrev S8x1280 : Shape := ⟨2, ![8, 1280]⟩
abbrev S1280 : Shape := ⟨1, ![1280]⟩
abbrev S1280x1280 : Shape := ⟨2, ![1280, 1280]⟩
abbrev S1280x1 : Shape := ⟨2, ![1280, 1]⟩
abbrev S1x1280 : Shape := ⟨2, ![1, 1280]⟩
abbrev S1x21x1280 : Shape := ⟨3, ![1, 21, 1280]⟩
abbrev S21x1280 : Shape := ⟨2, ![21, 1280]⟩

abbrev nBuf : Space → Nat
  | .hbm => 23
  | .vmem => 8
  | .smem => 0
  | _ => 0

abbrev bufTy : (tb : Table) → Fin (tcTables nBuf tb) → BufTy
  | .hbm, ⟨0, _⟩ => ⟨S2x21x80x80, .f32⟩
  | .hbm, ⟨1, _⟩ => ⟨S2x3x80x80, .f32⟩
  | .hbm, ⟨2, _⟩ => ⟨S80x80, .f32⟩
  | .hbm, ⟨3, _⟩ => ⟨S80x80, .f32⟩
  | .hbm, ⟨4, _⟩ => ⟨S1x80x80, .f32⟩
  | .hbm, ⟨5, _⟩ => ⟨S1x80x80, .f32⟩
  | .hbm, ⟨6, _⟩ => ⟨S2x80x80, .f32⟩
  | .hbm, ⟨7, _⟩ => ⟨S2x6400, .f32⟩
  | .hbm, ⟨8, _⟩ => ⟨S_, .f32⟩
  | .hbm, ⟨9, _⟩ => ⟨S2x6400, .f32⟩
  | .hbm, ⟨10, _⟩ => ⟨S2x6400, .f32⟩
  | .hbm, ⟨11, _⟩ => ⟨S2x3x6400, .f32⟩
  | .hbm, ⟨12, _⟩ => ⟨S_, .f32⟩
  | .hbm, ⟨13, _⟩ => ⟨S2x3x6400, .f32⟩
  | .hbm, ⟨14, _⟩ => ⟨S2x3x6400, .f32⟩
  | .hbm, ⟨15, _⟩ => ⟨S1x2x6400, .f32⟩
  | .hbm, ⟨16, _⟩ => ⟨S2x2x6400, .f32⟩
  | .hbm, ⟨17, _⟩ => ⟨S_, .f32⟩
  | .hbm, ⟨18, _⟩ => ⟨S2x3x6400, .f32⟩
  | .hbm, ⟨19, _⟩ => ⟨S2x8x6400, .f32⟩
  | .hbm, ⟨20, _⟩ => ⟨S2x21x6400, .f32⟩
  | .hbm, ⟨21, _⟩ => ⟨S2x21x6400, .f32⟩
  | .hbm, ⟨22, _⟩ => ⟨S2x21x80x80, .f32⟩
  | .local _ .vmem, ⟨0, _⟩ => ⟨S1x8x1280, .f32⟩
  | .local _ .vmem, ⟨1, _⟩ => ⟨S1x8x1280, .f32⟩
  | .local _ .vmem, ⟨2, _⟩ => ⟨S1x8x1280, .f32⟩
  | .local _ .vmem, ⟨3, _⟩ => ⟨S1x8x1280, .f32⟩
  | .local _ .vmem, ⟨4, _⟩ => ⟨S1x21x6400, .f32⟩
  | .local _ .vmem, ⟨5, _⟩ => ⟨S1x21x6400, .f32⟩
  | .local _ .vmem, ⟨6, _⟩ => ⟨S1x21x6400, .f32⟩
  | .local _ .vmem, ⟨7, _⟩ => ⟨S1x21x6400, .f32⟩
  | _, _ => ⟨S2x21x80x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_call0_v5 : Ref sig .tc := ⟨.hbm, 7, rfl⟩
abbrev main_call0_cst : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_cst_0 : Ref sig .tc := ⟨.hbm, 12, rfl⟩
abbrev main_call0_v9 : Ref sig .tc := ⟨.hbm, 13, rfl⟩
abbrev main_call0_v10 : Ref sig .tc := ⟨.hbm, 14, rfl⟩
abbrev main_call0_v11 : Ref sig .tc := ⟨.hbm, 15, rfl⟩
abbrev main_call0_v12 : Ref sig .tc := ⟨.hbm, 16, rfl⟩
abbrev main_call0_cst_1 : Ref sig .tc := ⟨.hbm, 17, rfl⟩
abbrev main_call0_v13 : Ref sig .tc := ⟨.hbm, 18, rfl⟩
abbrev main_call0_v14 : Ref sig .tc := ⟨.hbm, 19, rfl⟩
abbrev main_call0_v15 : Ref sig .tc := ⟨.hbm, 20, rfl⟩
abbrev main_call0_v16 : Ref sig .tc := ⟨.hbm, 21, rfl⟩
abbrev main_v0 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 5, 3], ![false, false, false]⟩

def k0_off1 (i : grid0.Coords) : Fin 3 → Nat :=
  let c0_24 : Index := 0#32
  let c0_25 : Index := 0#32
  let c3_i32_3 : BitVec 32 := 3#32
  let arg1 : BitVec 32 := BitVec.ofNat 32 (i 1).val
  let v12 : BitVec 32 := Scalar.muli c3_i32_3 arg1
  let arg2 : BitVec 32 := BitVec.ofNat 32 (i 2).val
  let v13 : BitVec 32 := Scalar.addi v12 arg2
  let c5_i32_4 : BitVec 32 := 5#32
  let c0_i32_5 : BitVec 32 := 0#32
  let v14 : BitVec 1 := Scalar.cmpi .eq c5_i32_4 c0_i32_5
  let c1_i32_6 : BitVec 32 := 1#32
  let v15 : BitVec 32 := Scalar.select v14 c1_i32_6 c5_i32_4
  let v16 : BitVec 32 := Scalar.remsi v13 v15
  let c0_i32_8 : BitVec 32 := 0#32
  let v18 : BitVec 1 := Scalar.cmpi .slt v16 c0_i32_8
  let c0_i32_9 : BitVec 32 := 0#32
  let v19 : BitVec 1 := Scalar.cmpi .slt v15 c0_i32_9
  let v20 : BitVec 1 := Scalar.xori v18 v19
  let c0_i32_7 : BitVec 32 := 0#32
  let v17 : BitVec 1 := Scalar.cmpi .ne v16 c0_i32_7
  let v21 : BitVec 1 := Scalar.andi v20 v17
  let v22 : BitVec 32 := Scalar.addi v16 v15
  let v23 : BitVec 32 := Scalar.select v21 v22 v16
  let c1280_i32 : BitVec 32 := 1280#32
  let v53 : BitVec 32 := Scalar.muli v23 c1280_i32
  let v54 : Index := Scalar.indexCast v53
  ![0, 0, v54.toNat]
def k0_off2 (i : grid0.Coords) : Fin 3 → Nat :=
  let c0_27 : Index := 0#32
  let c0_28 : Index := 0#32
  let c3_i32 : BitVec 32 := 3#32
  let arg1 : BitVec 32 := BitVec.ofNat 32 (i 1).val
  let v0 : BitVec 32 := Scalar.muli c3_i32 arg1
  let arg2 : BitVec 32 := BitVec.ofNat 32 (i 2).val
  let v1 : BitVec 32 := Scalar.subi v0 arg2
  let c5_i32 : BitVec 32 := 5#32
  let c0_i32 : BitVec 32 := 0#32
  let v2 : BitVec 1 := Scalar.cmpi .eq c5_i32 c0_i32
  let c1_i32 : BitVec 32 := 1#32
  let v3 : BitVec 32 := Scalar.select v2 c1_i32 c5_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c1280_i32_26 : BitVec 32 := 1280#32
  let v57 : BitVec 32 := Scalar.muli v11 c1280_i32_26
  let v58 : Index := Scalar.indexCast v57
  ![0, 0, v58.toNat]
def k0_cond2 (i : grid0.Coords) : BitVec 1 :=
  let arg2 : BitVec 32 := BitVec.ofNat 32 (i 2).val
  let c0_i32_32 : BitVec 32 := 0#32
  let v67 : BitVec 1 := Scalar.cmpi .ne arg2 c0_i32_32
  let v68 : BitVec 32 := Scalar.extui v67
  let c0_i32_33 : BitVec 32 := 0#32
  let v69 : BitVec 1 := Scalar.cmpi .ne v68 c0_i32_33
  v69

def k0_off3 (i : grid0.Coords) : Fin 3 → Nat :=
  let c0_35 : Index := 0#32
  let c0_36 : Index := 0#32
  let c3_i32 : BitVec 32 := 3#32
  let arg1 : BitVec 32 := BitVec.ofNat 32 (i 1).val
  let v0 : BitVec 32 := Scalar.muli c3_i32 arg1
  let arg2 : BitVec 32 := BitVec.ofNat 32 (i 2).val
  let v1 : BitVec 32 := Scalar.subi v0 arg2
  let c5_i32 : BitVec 32 := 5#32
  let c0_i32 : BitVec 32 := 0#32
  let v2 : BitVec 1 := Scalar.cmpi .eq c5_i32 c0_i32
  let c1_i32 : BitVec 32 := 1#32
  let v3 : BitVec 32 := Scalar.select v2 c1_i32 c5_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c1280_i32_34 : BitVec 32 := 1280#32
  let v70 : BitVec 32 := Scalar.muli v11 c1280_i32_34
  let v71 : Index := Scalar.indexCast v70
  ![0, 0, v71.toNat]
def k0_off4 (i : grid0.Coords) : Fin 3 → Nat :=
  let c0_38 : Index := 0#32
  let c0_39 : Index := 0#32
  let c3_i32_3 : BitVec 32 := 3#32
  let arg1 : BitVec 32 := BitVec.ofNat 32 (i 1).val
  let v12 : BitVec 32 := Scalar.muli c3_i32_3 arg1
  let arg2 : BitVec 32 := BitVec.ofNat 32 (i 2).val
  let v13 : BitVec 32 := Scalar.addi v12 arg2
  let c5_i32_4 : BitVec 32 := 5#32
  let c0_i32_5 : BitVec 32 := 0#32
  let v14 : BitVec 1 := Scalar.cmpi .eq c5_i32_4 c0_i32_5
  let c1_i32_6 : BitVec 32 := 1#32
  let v15 : BitVec 32 := Scalar.select v14 c1_i32_6 c5_i32_4
  let v16 : BitVec 32 := Scalar.remsi v13 v15
  let c0_i32_8 : BitVec 32 := 0#32
  let v18 : BitVec 1 := Scalar.cmpi .slt v16 c0_i32_8
  let c0_i32_9 : BitVec 32 := 0#32
  let v19 : BitVec 1 := Scalar.cmpi .slt v15 c0_i32_9
  let v20 : BitVec 1 := Scalar.xori v18 v19
  let c0_i32_7 : BitVec 32 := 0#32
  let v17 : BitVec 1 := Scalar.cmpi .ne v16 c0_i32_7
  let v21 : BitVec 1 := Scalar.andi v20 v17
  let v22 : BitVec 32 := Scalar.addi v16 v15
  let v23 : BitVec 32 := Scalar.select v21 v22 v16
  let c1280_i32_37 : BitVec 32 := 1280#32
  let v74 : BitVec 32 := Scalar.muli v23 c1280_i32_37
  let v75 : Index := Scalar.indexCast v74
  ![0, 0, v75.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli c3_i32 arg1
  let v1 : BitVec 32 := Scalar.subi v0 arg2
  let c5_i32 : BitVec 32 := 5#32
  let c0_i32 : BitVec 32 := 0#32
  let v2 : BitVec 1 := Scalar.cmpi .eq c5_i32 c0_i32
  let c1_i32 : BitVec 32 := 1#32
  let v3 : BitVec 32 := Scalar.select v2 c1_i32 c5_i32
  let v4 : BitVec 32 := Scalar.remsi v1 v3
  let c0_i32_0 : BitVec 32 := 0#32
  let v5 : BitVec 1 := Scalar.cmpi .ne v4 c0_i32_0
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let v9 : BitVec 1 := Scalar.andi v8 v5
  let v10 : BitVec 32 := Scalar.addi v4 v3
  let v11 : BitVec 32 := Scalar.select v9 v10 v4
  let c3_i32_3 : BitVec 32 := 3#32
  let v12 : BitVec 32 := Scalar.muli c3_i32_3 arg1
  let v13 : BitVec 32 := Scalar.addi v12 arg2
  let c5_i32_4 : BitVec 32 := 5#32
  let c0_i32_5 : BitVec 32 := 0#32
  let v14 : BitVec 1 := Scalar.cmpi .eq c5_i32_4 c0_i32_5
  let c1_i32_6 : BitVec 32 := 1#32
  let v15 : BitVec 32 := Scalar.select v14 c1_i32_6 c5_i32_4
  let v16 : BitVec 32 := Scalar.remsi v13 v15
  let c0_i32_7 : BitVec 32 := 0#32
  let v17 : BitVec 1 := Scalar.cmpi .ne v16 c0_i32_7
  let c0_i32_8 : BitVec 32 := 0#32
  let v18 : BitVec 1 := Scalar.cmpi .slt v16 c0_i32_8
  let c0_i32_9 : BitVec 32 := 0#32
  let v19 : BitVec 1 := Scalar.cmpi .slt v15 c0_i32_9
  let v20 : BitVec 1 := Scalar.xori v18 v19
  let v21 : BitVec 1 := Scalar.andi v20 v17
  let v22 : BitVec 32 := Scalar.addi v16 v15
  let v23 : BitVec 32 := Scalar.select v21 v22 v16
  let c0_i32_10 : BitVec 32 := 0#32
  let c0_i32_11 : BitVec 32 := 0#32
  ![arg0.toNat, c0_i32_10.toNat, v11.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli c3_i32 arg1
  let v1 : BitVec 32 := Scalar.subi v0 arg2
  let c5_i32 : BitVec 32 := 5#32
  let c0_i32 : BitVec 32 := 0#32
  let v2 : BitVec 1 := Scalar.cmpi .eq c5_i32 c0_i32
  let c1_i32 : BitVec 32 := 1#32
  let v3 : BitVec 32 := Scalar.select v2 c1_i32 c5_i32
  let v4 : BitVec 32 := Scalar.remsi v1 v3
  let c0_i32_0 : BitVec 32 := 0#32
  let v5 : BitVec 1 := Scalar.cmpi .ne v4 c0_i32_0
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let v9 : BitVec 1 := Scalar.andi v8 v5
  let v10 : BitVec 32 := Scalar.addi v4 v3
  let v11 : BitVec 32 := Scalar.select v9 v10 v4
  let c3_i32_3 : BitVec 32 := 3#32
  let v12 : BitVec 32 := Scalar.muli c3_i32_3 arg1
  let v13 : BitVec 32 := Scalar.addi v12 arg2
  let c5_i32_4 : BitVec 32 := 5#32
  let c0_i32_5 : BitVec 32 := 0#32
  let v14 : BitVec 1 := Scalar.cmpi .eq c5_i32_4 c0_i32_5
  let c1_i32_6 : BitVec 32 := 1#32
  let v15 : BitVec 32 := Scalar.select v14 c1_i32_6 c5_i32_4
  let v16 : BitVec 32 := Scalar.remsi v13 v15
  let c0_i32_7 : BitVec 32 := 0#32
  let v17 : BitVec 1 := Scalar.cmpi .ne v16 c0_i32_7
  let c0_i32_8 : BitVec 32 := 0#32
  let v18 : BitVec 1 := Scalar.cmpi .slt v16 c0_i32_8
  let c0_i32_9 : BitVec 32 := 0#32
  let v19 : BitVec 1 := Scalar.cmpi .slt v15 c0_i32_9
  let v20 : BitVec 1 := Scalar.xori v18 v19
  let v21 : BitVec 1 := Scalar.andi v20 v17
  let v22 : BitVec 32 := Scalar.addi v16 v15
  let v23 : BitVec 32 := Scalar.select v21 v22 v16
  let c0_i32_10 : BitVec 32 := 0#32
  let c0_i32_11 : BitVec 32 := 0#32
  ![arg0.toNat, c0_i32_10.toNat, v23.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x21x6400 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x21x6400 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]
-- ==== KernelIdeal.lean ====
variable {F : FTy → Type} [FloatOps F] [Named F]
def κ : String → Option EReal := fun
  | "log2e" => some (((Real.log 2)⁻¹ : ℝ) : EReal)
  | "nhalf_log2e" => some (((-1 / 2) * (Real.log 2)⁻¹ : ℝ) : EReal)
  | _ => none
-- ==== ReferenceIdeal.lean ====
abbrev S2x21x80x80 : Shape := ⟨4, ![2, 21, 80, 80]⟩
abbrev S2x3x80x80 : Shape := ⟨4, ![2, 3, 80, 80]⟩
abbrev S1x3x80x80 : Shape := ⟨4, ![1, 3, 80, 80]⟩
abbrev S3x80x80 : Shape := ⟨3, ![3, 80, 80]⟩
abbrev S80 : Shape := ⟨1, ![80]⟩
abbrev S80x80 : Shape := ⟨2, ![80, 80]⟩
abbrev S1x80x80 : Shape := ⟨3, ![1, 80, 80]⟩
abbrev S2x80x80 : Shape := ⟨3, ![2, 80, 80]⟩
abbrev S_ : Shape := ⟨0, ![]⟩
abbrev S5x80x80 : Shape := ⟨3, ![5, 80, 80]⟩
abbrev S5x6400 : Shape := ⟨2, ![5, 6400]⟩
abbrev S6400x5 : Shape := ⟨2, ![6400, 5]⟩
abbrev S1x21x80x80 : Shape := ⟨4, ![1, 21, 80, 80]⟩
abbrev S21x80x80 : Shape := ⟨3, ![21, 80, 80]⟩
abbrev S21x6400 : Shape := ⟨2, ![21, 6400]⟩
abbrev S6400x21 : Shape := ⟨2, ![6400, 21]⟩
abbrev S6400 : Shape := ⟨1, ![6400]⟩
abbrev S6400x1 : Shape := ⟨2, ![6400, 1]⟩
abbrev S1x6400 : Shape := ⟨2, ![1, 6400]⟩
abbrev S6400x6400 : Shape := ⟨2, ![6400, 6400]⟩

abbrev nBuf : Space → Nat
  | .hbm => 97
  | .vmem => 0
  | .smem => 0
  | _ => 0

abbrev bufTy : (tb : Table) → Fin (tcTables nBuf tb) → BufTy
  | .hbm, ⟨0, _⟩ => ⟨S2x21x80x80, .f32⟩
  | .hbm, ⟨1, _⟩ => ⟨S2x3x80x80, .f32⟩
  | .hbm, ⟨2, _⟩ => ⟨S1x3x80x80, .f32⟩
  | .hbm, ⟨3, _⟩ => ⟨S3x80x80, .f32⟩
  | .hbm, ⟨4, _⟩ => ⟨S80, .f32⟩
  | .hbm, ⟨5, _⟩ => ⟨S80, .f32⟩
  | .hbm, ⟨6, _⟩ => ⟨S80x80, .f32⟩
  | .hbm, ⟨7, _⟩ => ⟨S80x80, .f32⟩
  | .hbm, ⟨8, _⟩ => ⟨S1x80x80, .f32⟩
  | .hbm, ⟨9, _⟩ => ⟨S1x80x80, .f32⟩
  | .hbm, ⟨10, _⟩ => ⟨S2x80x80, .f32⟩
  | .hbm, ⟨11, _⟩ => ⟨S_, .f32⟩
  | .hbm, ⟨12, _⟩ => ⟨S2x80x80, .f32⟩
  | .hbm, ⟨13, _⟩ => ⟨S2x80x80, .f32⟩
  | .hbm, ⟨14, _⟩ => ⟨S_, .f32⟩
  | .hbm, ⟨15, _⟩ => ⟨S3x80x80, .f32⟩
  | .hbm, ⟨16, _⟩ => ⟨S3x80x80, .f32⟩
  | .hbm, ⟨17, _⟩ => ⟨S5x80x80, .f32⟩
  | .hbm, ⟨18, _⟩ => ⟨S5x6400, .f32⟩
  | .hbm, ⟨19, _⟩ => ⟨S6400x5, .f32⟩
  | .hbm, ⟨20, _⟩ => ⟨S1x21x80x80, .f32⟩
  | .hbm, ⟨21, _⟩ => ⟨S21x80x80, .f32⟩
  | .hbm, ⟨22, _⟩ => ⟨S21x6400, .f32⟩
  | .hbm, ⟨23, _⟩ => ⟨S6400x21, .f32⟩
  | .hbm, ⟨24, _⟩ => ⟨S6400x5, .f32⟩
  | .hbm, ⟨25, _⟩ => ⟨S_, .f32⟩
  | .hbm, ⟨26, _⟩ => ⟨S6400, .f32⟩
  | .hbm, ⟨27, _⟩ => ⟨S6400x1, .f32⟩
  | .hbm, ⟨28, _⟩ => ⟨S1x6400, .f32⟩
  | .hbm, ⟨29, _⟩ => ⟨S6400x6400, .f32⟩
  | .hbm, ⟨30, _⟩ => ⟨S6400x6400, .f32⟩
  | .hbm, ⟨31, _⟩ => ⟨S6400x6400, .f32⟩
  | .hbm, ⟨32, _⟩ => ⟨S5x6400, .f32⟩
  | .hbm, ⟨33, _⟩ => ⟨S6400x6400, .f32⟩
  | .hbm, ⟨34, _⟩ => ⟨S_, .f32⟩
  | .hbm, ⟨35, _⟩ => ⟨S6400x6400, .f32⟩
  | .hbm, ⟨36, _⟩ => ⟨S6400x6400, .f32⟩
  | .hbm, ⟨37, _⟩ => ⟨S6400x6400, .f32⟩
  | .hbm, ⟨38, _⟩ => ⟨S_, .f32⟩
  | .hbm, ⟨39, _⟩ => ⟨S6400x6400, .f32⟩
  | .hbm, ⟨40, _⟩ => ⟨S6400x6400, .f32⟩
  | .hbm, ⟨41, _⟩ => ⟨S_, .f32⟩
  | .hbm, ⟨42, _⟩ => ⟨S6400x6400, .f32⟩
  | .hbm, ⟨43, _⟩ => ⟨S6400x6400, .f32⟩
  | .hbm, ⟨44, _⟩ => ⟨S6400x6400, .f32⟩
  | .hbm, ⟨45, _⟩ => ⟨S6400x21, .f32⟩
  | .hbm, ⟨46, _⟩ => ⟨S21x6400, .f32⟩
  | .hbm, ⟨47, _⟩ => ⟨S21x80x80, .f32⟩
  | .hbm, ⟨48, _⟩ => ⟨S1x3x80x80, .f32⟩
  | .hbm, ⟨49, _⟩ => ⟨S3x80x80, .f32⟩
  | .hbm, ⟨50, _⟩ => ⟨S80, .f32⟩
  | .hbm, ⟨51, _⟩ => ⟨S80, .f32⟩
  | .hbm, ⟨52, _⟩ => ⟨S80x80, .f32⟩
  | .hbm, ⟨53, _⟩ => ⟨S80x80, .f32⟩
  | .hbm, ⟨54, _⟩ => ⟨S1x80x80, .f32⟩
  | .hbm, ⟨55, _⟩ => ⟨S1x80x80, .f32⟩
  | .hbm, ⟨56, _⟩ => ⟨S2x80x80, .f32⟩
  | .hbm, ⟨57, _⟩ => ⟨S_, .f32⟩
  | .hbm, ⟨58, _⟩ => ⟨S2x80x80, .f32⟩
  | .hbm, ⟨59, _⟩ => ⟨S2x80x80, .f32⟩
  | .hbm, ⟨60, _⟩ => ⟨S_, .f32⟩
  | .hbm, ⟨61, _⟩ => ⟨S3x80x80, .f32⟩
  | .hbm, ⟨62, _⟩ => ⟨S3x80x80, .f32⟩
  | .hbm, ⟨63, _⟩ => ⟨S5x80x80, .f32⟩
  | .hbm, ⟨64, _⟩ => ⟨S5x6400, .f32⟩
  | .hbm, ⟨65, _⟩ => ⟨S6400x5, .f32⟩
  | .hbm, ⟨66, _⟩ => ⟨S1x21x80x80, .f32⟩
  | .hbm, ⟨67, _⟩ => ⟨S21x80x80, .f32⟩
  | .hbm, ⟨68, _⟩ => ⟨S21x6400, .f32⟩
  | .hbm, ⟨69, _⟩ => ⟨S6400x21, .f32⟩
  | .hbm, ⟨70, _⟩ => ⟨S6400x5, .f32⟩
  | .hbm, ⟨71, _⟩ => ⟨S_, .f32⟩
  | .hbm, ⟨72, _⟩ => ⟨S6400, .f32⟩
  | .hbm, ⟨73, _⟩ => ⟨S6400x1, .f32⟩
  | .hbm, ⟨74, _⟩ => ⟨S1x6400, .f32⟩
  | .hbm, ⟨75, _⟩ => ⟨S6400x6400, .f32⟩
  | .hbm, ⟨76, _⟩ => ⟨S6400x6400, .f32⟩
  | .hbm, ⟨77, _⟩ => ⟨S6400x6400, .f32⟩
  | .hbm, ⟨78, _⟩ => ⟨S5x6400, .f32⟩
  | .hbm, ⟨79, _⟩ => ⟨S6400x6400, .f32⟩
  | .hbm, ⟨80, _⟩ => ⟨S_, .f32⟩
  | .hbm, ⟨81, _⟩ => ⟨S6400x6400, .f32⟩
  | .hbm, ⟨82, _⟩ => ⟨S6400x6400, .f32⟩
  | .hbm, ⟨83, _⟩ => ⟨S6400x6400, .f32⟩
  | .hbm, ⟨84, _⟩ => ⟨S_, .f32⟩
  | .hbm, ⟨85, _⟩ => ⟨S6400x6400, .f32⟩
  | .hbm, ⟨86, _⟩ => ⟨S6400x6400, .f32⟩
  | .hbm, ⟨87, _⟩ => ⟨S_, .f32⟩
  | .hbm, ⟨88, _⟩ => ⟨S6400x6400, .f32⟩
  | .hbm, ⟨89, _⟩ => ⟨S6400x6400, .f32⟩
  | .hbm, ⟨90, _⟩ => ⟨S6400x6400, .f32⟩
  | .hbm, ⟨91, _⟩ => ⟨S6400x21, .f32⟩
  | .hbm, ⟨92, _⟩ => ⟨S21x6400, .f32⟩
  | .hbm, ⟨93, _⟩ => ⟨S21x80x80, .f32⟩
  | .hbm, ⟨94, _⟩ => ⟨S1x21x80x80, .f32⟩
  | .hbm, ⟨95, _⟩ => ⟨S1x21x80x80, .f32⟩
  | .hbm, ⟨96, _⟩ => ⟨S2x21x80x80, .f32⟩
  | _, _ => ⟨S2x21x80x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_1 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_cst_2 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_3 : Ref sig .tc := ⟨.hbm, 38, rfl⟩
abbrev main_v32 : Ref sig .tc := ⟨.hbm, 39, rfl⟩
abbrev main_v33 : Ref sig .tc := ⟨.hbm, 40, rfl⟩
abbrev main_cst_4 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_cst_5 : Ref sig .tc := ⟨.hbm, 57, rfl⟩
abbrev main_v49 : Ref sig .tc := ⟨.hbm, 58, rfl⟩
abbrev main_v50 : Ref sig .tc := ⟨.hbm, 59, rfl⟩
abbrev main_cst_6 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_cst_7 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_cst_8 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_cst_9 : Ref sig .tc := ⟨.hbm, 84, rfl⟩
abbrev main_v72 : Ref sig .tc := ⟨.hbm, 85, rfl⟩
abbrev main_v73 : Ref sig .tc := ⟨.hbm, 86, rfl⟩
abbrev main_cst_10 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩

abbrev nD : Nat := 1
abbrev τ : Topo := Topo.v7x

variable {F : FTy → Type} [FloatOps F]
-- ==== Proof.ExactKit.lean ====
/-
  The launch of `KernelIdeal`, set up by hand: what its region finds in the arrays, that the host lines around the region
  keep to their own buffers, and the block each input window stages at a grid point. Everything here holds for any
  float values; the body and the proof data follow in `ExactBody`.
-/
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Proof.Exact

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The buffers of core `c` when the region starts: the launch's memory after the nineteen host lines before it. -/
abbrev entryAll (c : Dev nD) : Valuation τ sig (Elt F) := StableHlo.after (List.flatten [hostOps0]) (fun b => m (c, b))

/-- One buffer of `entryAll`, by its reference. -/
abbrev entry (c : Dev nD) (b : Ref sig .tc) : Buf (Elt F) ((c : Thread nD τ).loc b) := entryAll m c (Proc.devRef .tc b)

/-- The host lines before the region allocate nothing. -/
theorem before_alloc_none : (hostOps0 : List (HloOp τ sig (Elt F))).Forall fun op => op.fresh = ∅ := by
  simp only [List.Forall]; repeat' constructor

/-- Nor does the one after it. -/
theorem after_alloc_none : (hostOps1 : List (HloOp τ sig (Elt F))).Forall fun op => op.fresh = ∅ := by
  simp only [List.Forall]; repeat' constructor

set_option maxHeartbeats 800000 in
/-- The program is its first host lines, the region, and the last host line. -/
theorem main_around (𝒱₀ : Variants) : Pipeline.HMainK (Ix := Unit) (Name := ℕ) (U := UR sig nD τ) (Lvl := ℕ) cfgs 0 defs₀ 𝒱₀ m (main (F := F)) (entry m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact before_alloc_none) main_chain

/-- The last host line touches only buffers that outlive the region. -/
theorem tail_touches : ∀ ops ∈ ([hostOps1] : List (List (HloOp τ sig (Elt F)))), ∀ op ∈ ops,
    op.bufs ⊆ Pipeline.tailRefs sig Pipeline.Prefetch.none spec0 := by
  rw [Pipeline.tailRefs_none spec0 launch₀0.win.arr_unscoped]
  intro ops hops op hop
  obtain rfl : ops = hostOps1 := by simpa using hops
  exact Pipeline.sub_ucRefs op ((List.forall_iff_forall_mem.mp hostOps1_sub) op hop)

/-- It allocates nothing. -/
theorem tail_alloc : ∀ ops ∈ ([hostOps1] : List (List (HloOp τ sig (Elt F)))), ∀ op ∈ ops, op.fresh = ∅ := by
  intro ops hops op hop
  obtain rfl : ops = hostOps1 := by simpa using hops
  exact (List.forall_iff_forall_mem.mp after_alloc_none) op hop

/-- And it writes no array a window is on. -/
theorem tail_spares : ∀ ops ∈ ([hostOps1] : List (List (HloOp τ sig (Elt F)))), ∀ op ∈ ops,
    ∀ w, Proc.devRef .tc (Pipeline.arrRef spec0 w) ∉ op.writes := by
  intro ops hops op hop
  obtain rfl : ops = hostOps1 := by simpa using hops
  simp only [hostOps1, List.mem_cons, List.mem_nil_iff, or_false] at hop
  subst hop
  intro w
  fin_cases w <;> simp only [StableHlo.reshape_writes, Finset.mem_singleton] <;>
    exact StableHlo.devRef_ne_of_ne (by decide)

/-- The region finds the first argument as launched. -/
theorem entry_arg0 (c : Dev nD) : entry m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- And the second. -/
theorem entry_arg1 (c : Dev nD) : entry m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- The first argument ends as launched, whatever the region's proof data. -/
theorem exit_arg0 (dats : (p : Fin _) → (c : Dev nD) → Dat τ (Elt F) Unit ℕ (UR sig nD τ) ℕ (cfgs p) c) (c : Dev nD) :
    Pipeline.afterTail₀ cfgs dats 0 (entryAll m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.Forall, StableHlo.reshape_writes, Finset.mem_singleton]
      exact StableHlo.devRef_ne_of_ne (by decide))),
    Pipeline.withArrays_of_ne _ c (entryAll m c) _ main_arg0 (by exact (by decide : ∀ w, Pipeline.arrRef spec0 w ≠ main_arg0))]
  exact entry_arg0 m c

/-- And so does the second. -/
theorem exit_arg1 (dats : (p : Fin _) → (c : Dev nD) → Dat τ (Elt F) Unit ℕ (UR sig nD τ) ℕ (cfgs p) c) (c : Dev nD) :
    Pipeline.afterTail₀ cfgs dats 0 (entryAll m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.Forall, StableHlo.reshape_writes, Finset.mem_singleton]
      exact StableHlo.devRef_ne_of_ne (by decide))),
    Pipeline.withArrays_of_ne _ c (entryAll m c) _ main_arg1 (by exact (by decide : ∀ w, Pipeline.arrRef spec0 w ≠ main_arg1))]
  exact entry_arg1 m c

/-- Window `w`'s block at point `t`, of its array as the region finds it. -/
def block (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- A window that is only read holds its block at every point, when the body leaves it there. -/
theorem holds_block0 {c : Dev nD} (dat : Dat τ (Elt F) Unit ℕ (UR sig nD τ) ℕ cfg0 c) (hA : dat.A 0 = entry m c (Pipeline.arrRef spec0 0))
    (hafter : ∀ t, dat.after 0 t = block m c 0 t) (t : Fin cfg0.N) (d) : dat.before 0 t d = block m c 0 t :=
  (dat.before_in_eq_fetched 0 rfl (fun _ => rfl) (fun _ _ _ => rfl) (fun t => by rw [hafter]; unfold Dat.blockOf block; rw [hA]; try rfl) t d).trans
    (by unfold Dat.fetched Dat.blockOf block; rw [hA]; try rfl)

/-- The same for the second window. -/
theorem holds_block1 {c : Dev nD} (dat : Dat τ (Elt F) Unit ℕ (UR sig nD τ) ℕ cfg0 c) (hA : dat.A 1 = entry m c (Pipeline.arrRef spec0 1))
    (hafter : ∀ t, dat.after 1 t = block m c 1 t) (t : Fin cfg0.N) (d) : dat.before 1 t d = block m c 1 t :=
  (dat.before_in_eq_fetched 1 rfl (fun _ => rfl) (fun _ _ _ => rfl) (fun t => by rw [hafter]; unfold Dat.blockOf block; rw [hA]; try rfl) t d).trans
    (by unfold Dat.fetched Dat.blockOf block; rw [hA]; try rfl)

/-- The same for the third. -/
theorem holds_block2 {c : Dev nD} (dat : Dat τ (Elt F) Unit ℕ (UR sig nD τ) ℕ cfg0 c) (hA : dat.A 2 = entry m c (Pipeline.arrRef spec0 2))
    (hafter : ∀ t, dat.after 2 t = block m c 2 t) (t : Fin cfg0.N) (d) : dat.before 2 t d = block m c 2 t :=
  (dat.before_in_eq_fetched 2 rfl (fun _ => rfl) (fun _ _ _ => rfl) (fun t => by rw [hafter]; unfold Dat.blockOf block; rw [hA]; try rfl) t d).trans
    (by unfold Dat.fetched Dat.blockOf block; rw [hA]; try rfl)

end Cert.Proof.Exact

end
-- ==== Proof.ExactBody.lean ====
/-
  The body of `KernelIdeal`'s region: what one grid point leaves in the output's staging buffer (`afterPoint`), the triple
  that says so, the proof data of the whole grid (`left`: the accumulated buffer, by recursion on the point), and
  the run of the whole program. Everything here holds for any float values.
-/
module

public import proofs.«01_k».proof.Proof.ExactKit
public import Idealize.ShloMosaic.Lib.VecWindow
public import Idealize.ShloMosaic.Lib.Quiescent

@[expose] public section

set_option maxRecDepth 16384

noncomputable section

namespace Cert.Proof.Exact

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## One grid point -/

/-- Where the first block of a point's pair starts: block `(3c − s) mod 5` of the pixels. -/
theorem off2_eq (i : grid0.Coords) : k0_off2 i = ![0, 0, 1280 * ((3 * (i 1).val + 5 - (i 2).val) % 5)] := by
  revert i; decide +kernel

/-- Where the second starts: block `(3c + s) mod 5`. -/
theorem off1_eq (i : grid0.Coords) : k0_off1 i = ![0, 0, 1280 * ((3 * (i 1).val + (i 2).val) % 5)] := by
  revert i; decide +kernel

/-- The second sum's reads are where the first sum writes. -/
theorem off3_eq (i : grid0.Coords) : k0_off3 i = ![0, 0, 1280 * ((3 * (i 1).val + 5 - (i 2).val) % 5)] := by
  revert i; decide +kernel

/-- And it writes where the first sum reads. -/
theorem off4_eq (i : grid0.Coords) : k0_off4 i = ![0, 0, 1280 * ((3 * (i 1).val + (i 2).val) % 5)] := by
  revert i; decide +kernel

instance (i : grid0.Coords) : ClosedOff (k0_off1 i) := ⟨_, off1_eq i⟩
instance (i : grid0.Coords) : ClosedOff (k0_off2 i) := ⟨_, off2_eq i⟩
instance (i : grid0.Coords) : ClosedOff (k0_off3 i) := ⟨_, off3_eq i⟩
instance (i : grid0.Coords) : ClosedOff (k0_off4 i) := ⟨_, off4_eq i⟩

/-- The word the kernel tests before it clears its output block: the second and third grid coordinates are both zero. -/
def clears (i : grid0.Coords) : BitVec 1 :=
  Scalar.cmpi .ne (Scalar.extui (Scalar.andi (Scalar.cmpi .eq (BitVec.ofNat 32 (i 1).val) 0#32)
    (Scalar.cmpi .eq (BitVec.ofNat 32 (i 2).val) 0#32)) : BitVec 32) 0#32

/-- The output block as the point's sums start from it: zero at a clearing point, else as it was. -/
def started (i : grid0.Coords) (o : Vec F S1x21x6400 .f32) : Vec F S1x21x6400 .f32 :=
  if clears i = 1#1 then k0_pay4 (F := F) else o

/-- The output block after the point's first sum: rows of the first feature block, against the second. -/
def summedOnce (i : grid0.Coords) (x0 x1 : Vec F S1x8x1280 .f32) (v o : Vec F S1x21x6400 .f32) : Vec F S1x21x6400 .f32 :=
  VecWindow.put (s := S1x21x6400) o (k0_off2 i) S1x21x1280.size
    (k0_pay2 (k0_pay5 x0) (k0_pay6 x1) (VecWindow.window (s := S1x21x6400) v (k0_off1 i) S1x21x1280.size (k0_off1_inb i))
      (VecWindow.window (s := S1x21x6400) o (k0_off2 i) S1x21x1280.size (k0_off2_inb i)))

/-- And after its second, which a point on the diagonal skips: rows of the second block, against the first. -/
def summedTwice (i : grid0.Coords) (x0 x1 : Vec F S1x8x1280 .f32) (v o : Vec F S1x21x6400 .f32) : Vec F S1x21x6400 .f32 :=
  if h : k0_cond2 i = 1#1 then
    VecWindow.put (s := S1x21x6400) o (k0_off4 i) S1x21x1280.size
      (k0_pay3 (k0_pay5 x0) (k0_pay6 x1) (VecWindow.window (s := S1x21x6400) v (k0_off3 i) S1x21x1280.size (k0_off3_inb i h))
        (VecWindow.window (s := S1x21x6400) o (k0_off4 i) S1x21x1280.size (k0_off4_inb i h)))
  else o

/-- What the body leaves in the output's buffer, from the two feature blocks, the values and what the buffer held. -/
def afterPoint (i : grid0.Coords) (x0 x1 : Vec F S1x8x1280 .f32) (v o : Vec F S1x21x6400 .f32) : Vec F S1x21x6400 .f32 :=
  summedTwice i x0 x1 v (summedOnce i x0 x1 v (started i o))

/-- Contents put over a whole block are the block. -/
theorem whole_put {α : Type} (o w : S1x21x6400.Idx → α) : VecWindow.put (s := S1x21x6400) o ![0, 0, 0] ![1, 21, 6400] w = w := by
  funext y
  unfold VecWindow.put
  have h : ∀ a : Fin 3, (![0, 0, 0] : Fin 3 → ℕ) a ≤ (y a).val ∧ (y a).val < (![0, 0, 0] : Fin 3 → ℕ) a + S1x21x6400.size a := fun a => by
    have := (y a).isLt
    match a with
    | ⟨0, _⟩ => exact ⟨Nat.zero_le _, by simpa using this⟩
    | ⟨1, _⟩ => exact ⟨Nat.zero_le _, by simpa using this⟩
    | ⟨2, _⟩ => exact ⟨Nat.zero_le _, by simpa using this⟩
  rw [dif_pos h]
  exact congrArg w (funext fun a => Fin.ext (by
    match a with
    | ⟨0, _⟩ => rfl
    | ⟨1, _⟩ => rfl
    | ⟨2, _⟩ => rfl))

/-- The window of a whole feature block is the block. -/
theorem whole_window {α : Type} (x : S1x8x1280.Idx → α) :
    VecWindow.window (s := S1x8x1280) x ![0, 0, 0] ![1, 8, 1280] inb_S1x8x1280_S1x8x1280_0_0_0 = x := by
  funext y
  exact congrArg x (funext fun a => Fin.ext (by
    show (![0, 0, 0] : Fin 3 → ℕ) a + 1 * (y a).val = (y a).val
    have : (![0, 0, 0] : Fin 3 → ℕ) a = 0 := by revert a; decide
    omega))

set_option maxHeartbeats 2000000 in
/-- The body at a point whose two tests have known outcomes: the three inputs stay, the output ends at `afterPoint`. -/
theorem body_runs (c : Dev nD) (E : Set ℕ) (i : grid0.Coords) (q3 q4 q5 : PosShare TreeShare)
    (a3 : Memref sig .tc .vmem S1x8x1280 .f32) (h3 : a3.IsWhole) (a4 : Memref sig .tc .vmem S1x8x1280 .f32) (h4 : a4.IsWhole)
    (a5 : Memref sig .tc .vmem S1x21x6400 .f32) (h5 : a5.IsWhole) (a6 : Memref sig .tc .vmem S1x21x6400 .f32) (h6 : a6.IsWhole)
    (x0 x1 : Vec F S1x8x1280 .f32) (v o : Vec F S1x21x6400 .f32) (K : PUnit → sProp 𝕄) :
    iprop(owns (c : Thread nD τ) a3 q3 x0 ∗ owns (c : Thread nD τ) a4 q4 x1 ∗ owns (c : Thread nD τ) a5 q5 v
        ∗ owns (c : Thread nD τ) a6 fullShare o
        ∗ (iprop(owns (c : Thread nD τ) a3 q3 x0 ∗ owns (c : Thread nD τ) a4 q4 x1 ∗ owns (c : Thread nD τ) a5 q5 v
            ∗ owns (c : Thread nD τ) a6 fullShare (afterPoint i x0 x1 v o)) -∗ K ⟨⟩))
      ⊢ wp frame (wpE (defs₀ (F := F)) Variants.none c none) E (cc0__gauss_pair i a3 h3 a4 h4 a5 h5 a6 h6) K := by
  simp only [cc0__gauss_pair_eq_skeleton]; unfold cc0__gauss_pair_skel
  simp only [k0_part1_eq_skeleton]; unfold k0_part1_skel
  unfold owns
  by_cases hc' : clears i = 1#1 <;> by_cases hd : k0_cond2 i = 1#1 <;> have hc := hc' <;> unfold clears at hc
  all_goals
    iintro ⟨⟨%f3, %hf3, H3⟩, ⟨%f4, %hf4, H4⟩, ⟨%f5, %hf5, H5⟩, ⟨%f6, %hf6, H6⟩, Hk⟩
    subst hf3 hf4 hf5 hf6
    sl_exec
    sl_step
    iapply Hk
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    iexists _; isplitr
    swap; · iexact H6
    ipureintro
    unfold afterPoint summedTwice summedOnce started
    simp only [hc', hd, if_true, if_false, dif_pos, dif_neg, not_false_eq_true]
    try sl_unfold_run_names
    try dsimp only
    try unfold View.readCov
    simp only [View.readAt_eq_ld, ← VecWindow.window_eq_ld, View.read_writes_cons_put _ _ _ _ _ rfl, View.writes_nil, whole_put, whole_window]
    try rfl

/-! ## The whole grid -/

/-- The output block is cleared exactly where a batch starts: at the points divisible by 15. -/
theorem clears_iff : ∀ t : Fin cfg0.N, clears (cfg0.grid.coords t) = 1#1 ↔ t.val % 15 = 0 := by decide +kernel

/-- Where it is cleared, what it held does not matter. -/
theorem afterPoint_of_clears {i : grid0.Coords} (h : clears i = 1#1) (x0 x1 : Vec F S1x8x1280 .f32) (v o o' : Vec F S1x21x6400 .f32) :
    afterPoint i x0 x1 v o = afterPoint i x0 x1 v o' := by
  unfold afterPoint started
  rw [if_pos h, if_pos h]

variable (m : (ℓ : Loc nD τ sig) → Buf (Elt F) ℓ) (ρ : Dev nD → PrngReg)

/-- One point of core `c`, from what the output's buffer held. -/
def pointOn (c : Dev nD) (t : Fin cfg0.N) (o : Vec F S1x21x6400 .f32) : Vec F S1x21x6400 .f32 :=
  afterPoint (cfg0.grid.coords t) (block m c 0 t) (block m c 1 t) (block m c 2 t) o

/-- What the output's buffer holds after point `n`: each point's sums on top of the point before. -/
def left (c : Dev nD) : (n : ℕ) → n < cfg0.N → Vec F S1x21x6400 .f32
  | 0, h => pointOn m c ⟨0, h⟩ (k0_pay4 (F := F))
  | n + 1, h => pointOn m c ⟨n + 1, h⟩ (left c n (Nat.lt_of_succ_lt h))

/-- The proof data of the grid: the arrays as the region finds them; after point `t` the inputs' buffers hold their
    blocks and the output's holds `left`; the two windows on the feature array hold their shares of it. -/
def dats (_ : Fin 1) (c : Dev nD) : Dat τ (Elt F) Unit ℕ (UR sig nD τ) ℕ cfg0 c where
  A w := entry m c (Pipeline.arrRef spec0 w)
  after w t := match w with
    | ⟨0, _⟩ => block m c 0 t
    | ⟨1, _⟩ => block m c 1 t
    | ⟨2, _⟩ => block m c 2 t
    | ⟨3, _⟩ => left m c t.val t.isLt
  Φ _ := Pipeline.ΦA spec0 c
  q w := Pipeline.shareOf spec0 w
  owed _ := 0

theorem dats_A (c : Dev nD) (w : Fin cfg0.W) : (dats m 0 c).A w = entry m c (Pipeline.arrRef spec0 w) := by
  dsimp only [dats]

theorem after_0 (c : Dev nD) (t : Fin cfg0.N) : (dats m 0 c).after 0 t = block m c 0 t := by dsimp only [dats]
theorem after_1 (c : Dev nD) (t : Fin cfg0.N) : (dats m 0 c).after 1 t = block m c 1 t := by dsimp only [dats]
theorem after_2 (c : Dev nD) (t : Fin cfg0.N) : (dats m 0 c).after 2 t = block m c 2 t := by dsimp only [dats]
theorem after_3 (c : Dev nD) (t : Fin cfg0.N) : (dats m 0 c).after 3 t = left m c t.val t.isLt := by dsimp only [dats]

/-- The first input's buffer holds its block when the body starts. -/
theorem before_0 (c : Dev nD) (t : Fin cfg0.N) (d) : (dats m 0 c).before 0 t d = block m c 0 t :=
  holds_block0 m (dats m 0 c) (dats_A m c 0) (after_0 m c) t d
/-- The second's too. -/
theorem before_1 (c : Dev nD) (t : Fin cfg0.N) (d) : (dats m 0 c).before 1 t d = block m c 1 t :=
  holds_block1 m (dats m 0 c) (dats_A m c 1) (after_1 m c) t d
/-- And the third's. -/
theorem before_2 (c : Dev nD) (t : Fin cfg0.N) (d) : (dats m 0 c).before 2 t d = block m c 2 t :=
  holds_block2 m (dats m 0 c) (dats_A m c 2) (after_2 m c) t d

/-- A point leaves `left`, from whatever its buffer holds when it starts. -/
theorem point_leaves (c : Dev nD) (t : Fin cfg0.N) (d) :
    afterPoint (cfg0.grid.coords t) (block m c 0 t) (block m c 1 t) (block m c 2 t) ((dats m 0 c).before 3 t d) = left m c t.val t.isLt := by
  obtain ⟨n, hn⟩ := t
  match n, hn with
  | 0, hn =>
    exact afterPoint_of_clears ((clears_iff ⟨0, hn⟩).mpr rfl) _ _ _ _ _
  | n + 1, hn =>
    by_cases h : (n + 1) % 15 = 0
    · exact afterPoint_of_clears ((clears_iff ⟨n + 1, hn⟩).mpr h) _ _ _ _ _
    · have hfl : (cfg0.win 3).flush ⟨n, Nat.lt_of_succ_lt hn⟩ = false := by
        rw [Bool.eq_false_iff]
        intro hf
        have := (flush0_3 ⟨n, Nat.lt_of_succ_lt hn⟩).mp hf
        have h2 : n % 15 = 14 := this
        omega
      have e := (dats m 0 c).before_out_kept 3 rfl ⟨n + 1, hn⟩ (Nat.succ_ne_zero n) hfl (fun _ => rfl) (fun _ _ => rfl) d
      rw [e, after_3]
      rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point of the grid. -/
theorem point_runs (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  iintro ⟨HΦ, Ho, ⟨%d0, H0⟩, ⟨%d1, H1⟩, ⟨%d2, H2⟩, ⟨%d3, H3⟩⟩
  iapply (body_runs c Set.univ _ fullShare fullShare fullShare _ _ _ _ _ _ _ _ (block m c 0 t) (block m c 1 t) (block m c 2 t) ((dats m 0 c).before 3 t d3) _)
  isplitl [H0]; · iexact H0
  isplitl [H1]; · iexact H1
  isplitl [H2]; · iexact H2
  isplitl [H3]; · iexact H3
  rw [show afterPoint (grid0.coords t) (block m c 0 t) (block m c 1 t) (block m c 2 t) ((dats m 0 c).before 3 t d3) = left m c t.val t.isLt
    from point_leaves m c t d3]
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body table's row at point `t`'s slots is the body. -/
theorem row_eq (t : Fin cfg0.N) :
    defs₀ (F := F) .tc cfg0.body (cfg0.bodyArgs t (cfg0.slots t)) = bodyAt0 t := by
  unfold defs₀; rw [Defs.onTc_tc]

/-- Every point meets what the pipeline asks of the body. -/
theorem points_run (c : Dev nD) : BodyObligation (dats (F := F) m 0 c) (defs₀ (F := F)) Variants.none () Set.univ := fun t => by
  rw [bigSep_W0, bigSep_W0, row_eq]
  exact triple_restated (point_runs m c t) rfl .rfl fun _ => .rfl

/-! ## The run -/

/-- The buffers as a final state has them: the region's arrays written back, then the last host line. -/
abbrev final (c : Dev nD) : (b : Ref sig .tc) → Buf (Elt F) ((c : Thread nD τ).loc b) :=
  Pipeline.afterTail₀ cfgs (dats m) 0 (entryAll m) [hostOps1] c

-- the launch theorem's implicit arguments are found by unifying its conclusion with this one
set_option backward.isDefEq.respectTransparency.types false in
/-- Every execution of the program ends, with the region's arrays and the last line's result as computed from the proof
    data, every other buffer as it was, and all counters at zero. -/
theorem run_ends : θ_run defs (onTc (τ := τ) (main (F := F))) (s₀ m ρ)
    (fun r => (Pipeline.FramePost cfgs (dats m) 0 (final m)) r ∧ r.2.sem = fun _ => 0) :=
  Pipeline.θ_run_frame_around_shared (Q' := _) cfgs (dats m) (0 : Fin 1) launch₀0 defs₀ Variants.none m ρ main
    (hbody := fun c => (points_run m c).loose) (hq := fun _ _ _ => rfl) (howed := fun _ _ => rfl)
    (V₀ := entryAll m) (opss := [hostOps1]) (hsub := tail_touches) (hfresh := tail_alloc) (hkeep := tail_spares)
    (hmain := main_around m Variants.none) (hA := dats_A m) (hΦ := fun _ _ => rfl)

/-- The frame claim: both arguments end as launched and every counter ends at zero. -/
theorem arguments_stay : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c =>
    ⟨((h.1 c).2 main_arg0 (by decide)).trans (exit_arg0 m (dats m) c),
     ((h.1 c).2 main_arg1 (by decide)).trans (exit_arg1 m (dats m) c)⟩, h.2⟩) (run_ends m ρ)

end Cert.Proof.Exact

end
-- ==== Proof.Weights.lean ====
/-
  The mathematics that both programs compute, over the reals: a pixel's features, the weight of one pixel in
  another's sum, and the second spelling of that weight, a power of two. Nothing here mentions a program.
-/
module

public import Mathlib.Analysis.SpecialFunctions.Pow.Real
public import Mathlib.Data.EReal.Operations
public import Mathlib.Algebra.BigOperators.Fin

@[expose] public section

noncomputable section

namespace Cert.Proof.Weights

open scoped BigOperators

/-- The image has 80 rows of 80 pixels. -/
abbrev Pixel : Type := Fin 6400

/-- Feature `k` of pixel `n`: its column and its row over 8, then its three colours over 1/8, then zeros. -/
def feature (x : Fin 3 → Pixel → ℝ) (k : ℕ) (n : Pixel) : ℝ :=
  if k = 0 then ((n.val % 80 : ℕ) : ℝ) / 8
  else if k = 1 then ((n.val / 80 : ℕ) : ℝ) / 8
  else if h : k - 2 < 3 then x ⟨k - 2, h⟩ n / (1 / 8)
  else 0

/-- The sum over the five features of the product of two pixels' features. -/
def dot (x : Fin 3 → Pixel → ℝ) (n j : Pixel) : ℝ := ∑ k : Fin 5, feature x k.val n * feature x k.val j

theorem dot_comm (x : Fin 3 → Pixel → ℝ) (n j : Pixel) : dot x n j = dot x j n :=
  Finset.sum_congr rfl fun _ _ => mul_comm _ _

/-- Three more features, all zero, change nothing. -/
theorem dot_eight (x : Fin 3 → Pixel → ℝ) (n j : Pixel) : ∑ k : Fin 8, feature x k.val n * feature x k.val j = dot x n j := by
  have h5 : ∀ p, feature x 5 p = 0 := fun p => by unfold feature; norm_num
  have h6 : ∀ p, feature x 6 p = 0 := fun p => by unfold feature; norm_num
  have h7 : ∀ p, feature x 7 p = 0 := fun p => by unfold feature; norm_num
  unfold dot
  rw [Fin.sum_univ_eight, Fin.sum_univ_five]
  show _ + feature x 5 n * feature x 5 j + feature x 6 n * feature x 6 j + feature x 7 n * feature x 7 j = _
  rw [h5, h6, h7]
  simp

/-- The weight of pixel `j` in pixel `n`'s sum: `exp` of minus half their squared distance, the distance clipped at 0. -/
def weight (x : Fin 3 → Pixel → ℝ) (n j : Pixel) : ℝ :=
  Real.exp (-(1 / 2) * max (dot x n n + dot x j j - 2 * dot x n j) 0)

theorem weight_comm (x : Fin 3 → Pixel → ℝ) (n j : Pixel) : weight x n j = weight x j n := by
  unfold weight
  rw [dot_comm x n j, add_comm (dot x n n)]

/-- The same weight as a power of two, the exponent's three terms scaled by the binary logarithm of `e`. -/
theorem weight_eq_rpow (x : Fin 3 → Pixel → ℝ) (n j : Pixel) :
    Real.rpow 2 (min ((-1 / 2) * (Real.log 2)⁻¹ * dot x n n + (-1 / 2) * (Real.log 2)⁻¹ * dot x j j
      + (Real.log 2)⁻¹ * dot x n j) 0) = weight x n j := by
  have hl : 0 < Real.log 2 := Real.log_pos (by norm_num)
  show (2 : ℝ) ^ (_ : ℝ) = _
  rw [Real.rpow_def_of_pos (by norm_num), mul_min_of_nonneg _ _ hl.le, mul_zero]
  unfold weight
  congr 1
  have e : Real.log 2 * ((-1 / 2) * (Real.log 2)⁻¹ * dot x n n + (-1 / 2) * (Real.log 2)⁻¹ * dot x j j
      + (Real.log 2)⁻¹ * dot x n j) = -(1 / 2) * (dot x n n + dot x j j - 2 * dot x n j) := by
    field_simp
    ring
  rw [e]
  rcases le_total (dot x n n + dot x j j - 2 * dot x n j) 0 with h | h
  · rw [max_eq_right h, min_eq_right (by linarith), mul_zero]
  · rw [max_eq_left h, min_eq_left (by linarith)]

/-- A finite sum of reals, as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- What both programs put at pixel `n` of a channel `v`: the weighted sum of the channel over every pixel. -/
def blurred (x : Fin 3 → Pixel → ℝ) (v : Pixel → EReal) (n : Pixel) : EReal := ∑ j : Pixel, (weight x n j : EReal) * v j

end Cert.Proof.Weights

end
-- ==== Proof.Reference.lean ====
/-
  The reference's result read at an index: at each batch, channel and pixel, the weighted sum (`Weights.blurred`) of
  that batch's channel, the weights being of that batch's image.
-/
module

public import proofs.«01_k».proof.Proof.Gen.ReferenceIdeal.Read
public import proofs.«01_k».proof.Proof.Weights
public import Idealize.ShloMosaic.Lib.ValueIdxCore
public import Idealize.ShloMosaic.Lib.Pipeline.Value

@[expose] public section

set_option maxRecDepth 16384

noncomputable section

namespace Cert.Proof.Reference

open Cert.ReferenceIdeal Cert.ReferenceIdeal.Gen Cert.ReferenceIdeal.Read Cert.Proof.Weights
open Idealize.ShloMosaic Idealize.ShloMosaic.ValueIdx
open scoped BigOperators

/-- The place of pixel `n` in channel `c` of batch `b` of the image. -/
abbrev colourAt (b : Fin 2) (c : Fin 3) (n : Pixel) : S2x3x80x80.Idx :=
  ix4 b c ⟨n.val / 80, by omega⟩ ⟨n.val % 80, by omega⟩

/-- And of the state. -/
abbrev stateAt (b : Fin 2) (c : Fin 21) (n : Pixel) : S2x21x80x80.Idx :=
  ix4 b c ⟨n.val / 80, by omega⟩ ⟨n.val % 80, by omega⟩

theorem bits_eight : Ideal.ofBits .f32 0x41000000#32 = ((8 : ℝ) : EReal) := by
  simp [Ideal.ofBits, Ideal.ieee, -EReal.coe_mul]; norm_num

theorem bits_eighth : Ideal.ofBits .f32 0x3E000000#32 = ((1 / 8 : ℝ) : EReal) := by
  simp [Ideal.ofBits, Ideal.ieee, -EReal.coe_mul]; norm_num

theorem bits_two : Ideal.ofBits .f32 0x40000000#32 = ((2 : ℝ) : EReal) := by
  simp [Ideal.ofBits, Ideal.ieee, -EReal.coe_mul]; norm_num

theorem bits_neg_half : Ideal.ofBits .f32 0xBF000000#32 = ((-(1 / 2) : ℝ) : EReal) := by
  simp [Ideal.ofBits, Ideal.ieee, -EReal.coe_mul, -EReal.coe_neg]; norm_num

/-- The number of a coordinate below 80, made a word and read back, is the coordinate. -/
theorem word_read {k : ℕ} (h : k < 80) : ((BitVec.ofNat 32 k).toInt : ℝ) = (k : ℝ) := by
  have e : (BitVec.ofNat 32 k).toInt = (k : ℤ) := by
    rw [BitVec.toInt_eq_toNat_of_lt (by rw [BitVec.toNat_ofNat]; omega), BitVec.toNat_ofNat, Nat.mod_eq_of_lt (by omega)]
  rw [e, Int.cast_natCast]

/-- A real over a nonzero real. -/
theorem div_real (a b : ℝ) (h : b ≠ 0) : Ideal.div (a : EReal) (b : EReal) = ((a / b : ℝ) : EReal) := by
  rw [Ideal.div_coe h, ← EReal.coe_mul, mul_one_div]

theorem column_apply (i : S80x80.Idx) : val_main_v5 (F := Ideal) i = (((i 1).val : ℝ) : EReal) := by
  rw [val_main_v5_apply]
  show (((BitVec.ofNat 32 (i 1).val).toInt : ℝ) : EReal) = _
  rw [word_read (i 1).isLt]

theorem row_apply (i : S80x80.Idx) : val_main_v4 (F := Ideal) i = (((i 0).val : ℝ) : EReal) := by
  rw [val_main_v4_apply]
  show (((BitVec.ofNat 32 (i 0).val).toInt : ℝ) : EReal) = _
  rw [word_read (i 0).isLt]

/-- The first plane of the two coordinates holds the columns, the second the rows. -/
theorem columns_apply (r c : Fin 80) : val_main_v8 (F := Ideal) (ix3 0 r c) = ((c.val : ℝ) : EReal) := by
  unfold val_main_v8
  refine (concatenate_pair_apply_left (s₁ := S1x80x80) (t := S2x80x80) 0 (val_main_v6 (F := Ideal)) _ _ (ix3 0 r c) rfl (ix3 0 r c)
    (fun b => match b with | ⟨0, _⟩ => rfl | ⟨1, _⟩ => rfl | ⟨2, _⟩ => rfl)).trans ?_
  rw [val_main_v6_apply, column_apply]

theorem rows_apply (r c : Fin 80) : val_main_v8 (F := Ideal) (ix3 1 r c) = ((r.val : ℝ) : EReal) := by
  unfold val_main_v8
  refine (concatenate_apply_piece (t := S2x80x80) 0 _ _ (ix3 1 r c) 1 (by exact Nat.one_lt_two) S1x80x80 (val_main_v7 (F := Ideal)) rfl rfl 1 rfl (ix3 0 r c)
    (fun b hb => match b with | ⟨0, _⟩ => absurd rfl hb | ⟨1, _⟩ => rfl | ⟨2, _⟩ => rfl) rfl).trans ?_
  rw [val_main_v7_apply, row_apply]

variable (x0 : S2x21x80x80.Idx → EReal) (x1 : S2x3x80x80.Idx → EReal) (x : Fin 3 → Pixel → ℝ)

/-- The scaled colours. -/
theorem colours_apply (hx : ∀ c n, x1 (colourAt 0 c n) = (x c n : EReal)) (c : Fin 3) (n : Pixel) :
    val_main_v12 (F := Ideal) x1 (ix3 c ⟨n.val / 80, by omega⟩ ⟨n.val % 80, by omega⟩) = ((x c n / (1 / 8) : ℝ) : EReal) := by
  rw [val_main_v12_apply, Ideal.hostDivf_def, val_main_v1_apply, val_main_v0_apply, val_main_v11_apply, val_main_cst_0_apply,
    Ideal.ofBits_def, bits_eighth]
  rw [show idx_main_v0 (idx_main_v1 (ix3 c ⟨n.val / 80, by omega⟩ ⟨n.val % 80, by omega⟩)) = colourAt 0 c n from
    funext fun a => Fin.ext (match a with
      | ⟨0, _⟩ => rfl
      | ⟨1, _⟩ => by
        have hc := c.isLt
        have hn : n.val < 6400 := n.isLt
        show ((c.val * 80 + n.val / 80) * 80 + n.val % 80) / 6400 % 3 = c.val
        omega
      | ⟨2, _⟩ => by
        have hc := c.isLt
        have hn : n.val < 6400 := n.isLt
        show ((c.val * 80 + n.val / 80) * 80 + n.val % 80) / 80 % 80 = n.val / 80
        omega
      | ⟨3, _⟩ => by
        show ((c.val * 80 + n.val / 80) * 80 + n.val % 80) % 80 = n.val % 80
        omega), hx, div_real _ _ (by norm_num)]

/-- The two scaled coordinates. -/
theorem places_apply (k : Fin 2) (n : Pixel) :
    val_main_v10 (F := Ideal) (ix3 k ⟨n.val / 80, by omega⟩ ⟨n.val % 80, by omega⟩) = (feature x k.val n : EReal) := by
  rw [val_main_v10_apply, Ideal.hostDivf_def, val_main_v9_apply, val_main_cst_apply, Ideal.ofBits_def, bits_eight]
  match k with
  | ⟨0, _⟩ =>
    rw [show (⟨0, _⟩ : Fin 2) = 0 from rfl, columns_apply, div_real _ _ (by norm_num)]
    rfl
  | ⟨1, _⟩ =>
    rw [show (⟨1, _⟩ : Fin 2) = 1 from rfl, rows_apply, div_real _ _ (by norm_num)]
    rfl

/-- Row `n`, column `k` of the first batch's feature matrix is feature `k` of pixel `n`. -/
theorem features_apply (hx : ∀ c n, x1 (colourAt 0 c n) = (x c n : EReal)) (n : Pixel) (k : Fin 5) :
    val_main_v15 (F := Ideal) x1 (ix2 n k) = (feature x k.val n : EReal) := by
  have hn : n.val < 6400 := n.isLt
  have hk : k.val < 5 := k.isLt
  rw [val_main_v15_apply, val_main_v14_apply]
  rw [show idx_main_v14 (idx_main_v15 (ix2 n k)) = ix3 k ⟨n.val / 80, by omega⟩ ⟨n.val % 80, by omega⟩ from
    funext fun a => Fin.ext (match a with
      | ⟨0, _⟩ => by show (k.val * 6400 + n.val) / 6400 = k.val; omega
      | ⟨1, _⟩ => by show (k.val * 6400 + n.val) / 80 % 80 = n.val / 80; omega
      | ⟨2, _⟩ => by show (k.val * 6400 + n.val) % 80 = n.val % 80; omega)]
  unfold val_main_v13
  by_cases h : k.val < 2
  · refine (concatenate_pair_apply_left (s₁ := S2x80x80) (t := S5x80x80) 0 (val_main_v10 (F := Ideal)) _ _ (ix3 k ⟨n.val / 80, by omega⟩ ⟨n.val % 80, by omega⟩) rfl
      (ix3 (⟨k.val, h⟩ : Fin 2) ⟨n.val / 80, by omega⟩ ⟨n.val % 80, by omega⟩)
      (fun b => match b with | ⟨0, _⟩ => rfl | ⟨1, _⟩ => rfl | ⟨2, _⟩ => rfl)).trans ?_
    rw [places_apply x]
  · refine (concatenate_apply_piece (t := S5x80x80) 0 _ _ (ix3 k ⟨n.val / 80, by omega⟩ ⟨n.val % 80, by omega⟩) 1 (by exact Nat.one_lt_two) S3x80x80
      (val_main_v12 (F := Ideal) x1) rfl rfl 2 rfl
      (ix3 (⟨k.val - 2, by omega⟩ : Fin 3) ⟨n.val / 80, by omega⟩ ⟨n.val % 80, by omega⟩)
      (fun b hb => match b with | ⟨0, _⟩ => absurd rfl hb | ⟨1, _⟩ => rfl | ⟨2, _⟩ => rfl)
      (by show 2 + (k.val - 2) = k.val; omega)).trans ?_
    rw [colours_apply x1 x hx]
    unfold feature
    rw [if_neg (by omega), if_neg (by omega), dif_pos (by omega)]

/-- The sum of a pixel's squared features. -/
theorem squares_apply (hx : ∀ c n, x1 (colourAt 0 c n) = (x c n : EReal)) (n : Pixel) :
    val_main_v21 (F := Ideal) x1 (ix1 n) = (dot x n n : EReal) := by
  rw [val_main_v21_apply, val_main_cst_1_apply, Ideal.ofBits_def, Ideal.ofBits_zero_f32, zero_add]
  unfold dot
  rw [coe_sum]
  refine Finset.sum_congr rfl fun k _ => ?_
  rw [val_main_v20_apply, Ideal.mulf_def, show idx_main_v21 (ix1 n) k = ix2 n k from
    funext fun a => Fin.ext (match a with | ⟨0, _⟩ => rfl | ⟨1, _⟩ => rfl), features_apply x1 x hx, ← EReal.coe_mul]

/-- The products of the features of two pixels, summed. -/
theorem dots_apply (hx : ∀ c n, x1 (colourAt 0 c n) = (x c n : EReal)) (n j : Pixel) :
    val_main_v28 (F := Ideal) x1 (ix2 n j) = (dot x n j : EReal) := by
  rw [val_main_v28_apply]
  unfold dot
  rw [coe_sum]
  refine Finset.sum_congr rfl fun k _ => ?_
  rw [val_main_v27_apply, show lidx_main_v28 (ix2 n j) k = ix2 n k from
      funext fun a => Fin.ext (match a with | ⟨0, _⟩ => rfl | ⟨1, _⟩ => rfl),
    show idx_main_v27 (ridx_main_v28 (ix2 n j) k) = ix2 j k from
      funext fun a => Fin.ext (match a with | ⟨0, _⟩ => rfl | ⟨1, _⟩ => rfl),
    features_apply x1 x hx, features_apply x1 x hx, ← EReal.coe_mul]

/-- The matrix of weights. -/
theorem weights_apply (hx : ∀ c n, x1 (colourAt 0 c n) = (x c n : EReal)) (n j : Pixel) :
    val_main_v36 (F := Ideal) x1 (ix2 n j) = (weight x n j : EReal) := by
  rw [val_main_v36_apply, val_main_v35_apply, val_main_v34_apply, val_main_v33_apply, val_main_v32_apply, val_main_v31_apply,
    val_main_v30_apply, val_main_v29_apply, val_main_v26_apply, val_main_v25_apply, val_main_v24_apply, val_main_v23_apply,
    val_main_v22_apply, show idx_main_v22 (idx_main_v24 (ix2 n j)) = ix1 n from
      funext fun a => Fin.ext (match a with | ⟨0, _⟩ => rfl),
    show idx_main_v23 (idx_main_v25 (ix2 n j)) = ix1 j from funext fun a => Fin.ext (match a with | ⟨0, _⟩ => rfl),
    squares_apply x1 x hx, squares_apply x1 x hx, dots_apply x1 x hx, val_main_cst_2_apply,
    val_main_cst_3_apply, val_main_cst_4_apply]
  simp only [Ideal.hostUnary_exp_def, Ideal.mulf_def, Ideal.maximumf_def, Ideal.subf_def, Ideal.addf_def, Ideal.ofBits_def,
    bits_two, bits_neg_half, Ideal.ofBits_zero_f32]
  rw [← EReal.coe_mul, ← EReal.coe_add, ← EReal.coe_sub, ← EReal.coe_zero, ← EReal.coe_strictMono.monotone.map_max, ← EReal.coe_mul, Ideal.exp_coe]
  rfl

/-- The state, pixels down and channels across. -/
theorem states_apply (j : Pixel) (c : Fin 21) : val_main_v19 (F := Ideal) x0 (ix2 j c) = x0 (stateAt 0 c j) := by
  have hj : j.val < 6400 := j.isLt
  have hc := c.isLt
  rw [val_main_v19_apply, val_main_v18_apply, val_main_v17_apply, val_main_v16_apply]
  refine congrArg x0 (funext fun a => Fin.ext (match a with
    | ⟨0, _⟩ => rfl
    | ⟨1, _⟩ => ?_
    | ⟨2, _⟩ => ?_
    | ⟨3, _⟩ => ?_))
  · show (((c.val * 6400 + j.val) / 6400 * 80 + (c.val * 6400 + j.val) / 80 % 80) * 80 + (c.val * 6400 + j.val) % 80) / 6400 % 21 = c.val
    omega
  · show (((c.val * 6400 + j.val) / 6400 * 80 + (c.val * 6400 + j.val) / 80 % 80) * 80 + (c.val * 6400 + j.val) % 80) / 80 % 80 = j.val / 80
    omega
  · show (((c.val * 6400 + j.val) / 6400 * 80 + (c.val * 6400 + j.val) / 80 % 80) * 80 + (c.val * 6400 + j.val) % 80) % 80 = j.val % 80
    omega

/-- The first batch's result. -/
theorem first_apply (hx : ∀ c n, x1 (colourAt 0 c n) = (x c n : EReal)) (c : Fin 21) (n : Pixel) :
    val_main_v39 (F := Ideal) x0 x1 (ix3 c ⟨n.val / 80, by omega⟩ ⟨n.val % 80, by omega⟩) =
      blurred x (fun j => x0 (stateAt 0 c j)) n := by
  have hn : n.val < 6400 := n.isLt
  have hc := c.isLt
  rw [val_main_v39_apply, val_main_v38_apply]
  rw [show idx_main_v38 (idx_main_v39 (ix3 c ⟨n.val / 80, by omega⟩ ⟨n.val % 80, by omega⟩)) = ix2 n c from
    funext fun a => Fin.ext (match a with
      | ⟨0, _⟩ => by show ((c.val * 80 + n.val / 80) * 80 + n.val % 80) % 6400 = n.val; omega
      | ⟨1, _⟩ => by show ((c.val * 80 + n.val / 80) * 80 + n.val % 80) / 6400 = c.val; omega)]
  rw [val_main_v37_apply]
  unfold blurred
  refine Finset.sum_congr rfl fun k _ => ?_
  rw [show lidx_main_v37 (ix2 n c) k = ix2 n k from
      funext fun a => Fin.ext (match a with | ⟨0, _⟩ => rfl | ⟨1, _⟩ => rfl),
    show ridx_main_v37 (ix2 n c) k = ix2 k c from
      funext fun a => Fin.ext (match a with | ⟨0, _⟩ => rfl | ⟨1, _⟩ => rfl),
    weights_apply x1 x hx, states_apply]

/-- The image with its second batch in the first's place. -/
def secondImage : S2x3x80x80.Idx → EReal := fun i => x1 (ix4 1 (i 1) (i 2) (i 3))

/-- The state with its second batch in the first's place. -/
def secondState : S2x21x80x80.Idx → EReal := fun i => x0 (ix4 1 (i 1) (i 2) (i 3))

theorem second_image : val_main_v40 (F := Ideal) x1 = val_main_v0 (F := Ideal) (secondImage x1) := funext fun i => by
  rw [val_main_v40_apply, val_main_v0_apply]
  have h0 : (i 0).val < 1 := (i 0).isLt
  refine congrArg x1 (funext fun a => Fin.ext (match a with
    | ⟨0, _⟩ => ?_
    | ⟨1, _⟩ => rfl
    | ⟨2, _⟩ => rfl
    | ⟨3, _⟩ => rfl))
  show 1 + (i 0).val = 1
  omega

theorem second_state : val_main_v56 (F := Ideal) x0 = val_main_v16 (F := Ideal) (secondState x0) := funext fun i => by
  rw [val_main_v56_apply, val_main_v16_apply]
  have h0 : (i 0).val < 1 := (i 0).isLt
  refine congrArg x0 (funext fun a => Fin.ext (match a with
    | ⟨0, _⟩ => ?_
    | ⟨1, _⟩ => rfl
    | ⟨2, _⟩ => rfl
    | ⟨3, _⟩ => rfl))
  show 1 + (i 0).val = 1
  omega

theorem second_features : val_main_v55 (F := Ideal) x1 = val_main_v15 (F := Ideal) (secondImage x1) := by
  unfold val_main_v55 val_main_v54 val_main_v53 val_main_v52 val_main_v41 val_main_v15 val_main_v14 val_main_v13 val_main_v12 val_main_v1
  rw [second_image]
  rfl

theorem second_states : val_main_v59 (F := Ideal) x0 = val_main_v19 (F := Ideal) (secondState x0) := by
  unfold val_main_v59 val_main_v58 val_main_v57 val_main_v19 val_main_v18 val_main_v17
  rw [second_state]

theorem second_squares : val_main_v61 (F := Ideal) x1 = val_main_v21 (F := Ideal) (secondImage x1) := by
  unfold val_main_v61 val_main_v60 val_main_v21 val_main_v20
  rw [second_features]
  rfl

theorem second_dots : val_main_v68 (F := Ideal) x1 = val_main_v28 (F := Ideal) (secondImage x1) := by
  unfold val_main_v68 val_main_v67 val_main_v28 val_main_v27
  rw [second_features]

theorem second_weights : val_main_v76 (F := Ideal) x1 = val_main_v36 (F := Ideal) (secondImage x1) := by
  unfold val_main_v76 val_main_v75 val_main_v73 val_main_v71 val_main_v70 val_main_v66 val_main_v65 val_main_v64 val_main_v63
    val_main_v62 val_main_v36 val_main_v35 val_main_v33 val_main_v31 val_main_v30 val_main_v26 val_main_v25 val_main_v24 val_main_v23
    val_main_v22
  rw [second_squares, second_dots]
  rfl

/-- The second batch's result is the first's, of the second batch. -/
theorem second_eq : val_main_v79 (F := Ideal) x0 x1 = val_main_v39 (F := Ideal) (secondState x0) (secondImage x1) := by
  unfold val_main_v79 val_main_v78 val_main_v77 val_main_v39 val_main_v38 val_main_v37
  rw [second_weights, second_states]

/-- **The reference's result at an index.** -/
theorem result_apply (y : Fin 2 → Fin 3 → Pixel → ℝ) (hy : ∀ b c n, x1 (colourAt b c n) = (y b c n : EReal))
    (b : Fin 2) (c : Fin 21) (n : Pixel) :
    val_main_v82 (F := Ideal) x0 x1 (stateAt b c n) = blurred (y b) (fun j => x0 (stateAt b c j)) n := by
  unfold val_main_v82
  match b with
  | ⟨0, _⟩ =>
    refine (concatenate_pair_apply_left (s₁ := S1x21x80x80) (t := S2x21x80x80) 0 (val_main_v80 (F := Ideal) x0 x1) _ _ (stateAt 0 c n) rfl
      (ix4 (0 : Fin 1) c ⟨n.val / 80, by omega⟩ ⟨n.val % 80, by omega⟩)
      (fun b => match b with | ⟨0, _⟩ => rfl | ⟨1, _⟩ => rfl | ⟨2, _⟩ => rfl | ⟨3, _⟩ => rfl)).trans ?_
    rw [val_main_v80_apply]
    exact first_apply x0 x1 (y 0) (hy 0) c n
  | ⟨1, _⟩ =>
    refine (concatenate_apply_piece (t := S2x21x80x80) 0 _ _ (stateAt 1 c n) 1 (by exact Nat.one_lt_two) S1x21x80x80
      (val_main_v81 (F := Ideal) x0 x1) rfl rfl 1 rfl (ix4 (0 : Fin 1) c ⟨n.val / 80, by omega⟩ ⟨n.val % 80, by omega⟩)
      (fun b hb => match b with | ⟨0, _⟩ => absurd rfl hb | ⟨1, _⟩ => rfl | ⟨2, _⟩ => rfl | ⟨3, _⟩ => rfl) rfl).trans ?_
    rw [val_main_v81_apply, second_eq]
    exact first_apply (secondState x0) (secondImage x1) (y 1) (hy 1) c n

end Cert.Proof.Reference

end
-- ==== Proof.Entry.lean ====
/-
  What the ideal kernel's region finds: the feature array and the state array, as the host lines before it leave them,
  read at an index.
-/
module

public import proofs.«01_k».proof.Proof.ExactBody
public import proofs.«01_k».proof.Proof.Reference
public import Idealize.ShloMosaic.Lib.ValueIdxCore
public import Idealize.ShloMosaic.Lib.Pipeline.Value
public import Idealize.ShloMosaic.Lib.StableHlo.Run
public import Idealize.ShloMosaic.Lib.StableHlo.RunRead

@[expose] public section

set_option maxRecDepth 16384

noncomputable section

namespace Cert.Proof.Entry

open Cert.KernelIdeal Cert.KernelIdeal.Gen Cert.Proof.Weights
open Idealize.ShloMosaic Idealize.ShloMosaic.ValueIdx Idealize.ShloMosaic.StableHlo Idealize.ShloMosaic.TcCoe
open scoped BigOperators

/-- Every pixel's column and row. -/
def places : S2x80x80.Idx → EReal :=
  concatenate S2x80x80 0 [⟨S1x80x80, broadcastInDim S1x80x80 ![1, 2] bcast_S80x80_S1x80x80_1_2 (sitofp (F := Ideal) .f32 (iotaInDim S80x80 32 1))⟩,
    ⟨S1x80x80, broadcastInDim S1x80x80 ![1, 2] bcast_S80x80_S1x80x80_1_2 (sitofp (F := Ideal) .f32 (iotaInDim S80x80 32 0))⟩] concatenates_S1x80x80_S1x80x80_S2x80x80_d0

/-- The first two features, the same for both batches. -/
def placeFeatures : S2x2x6400.Idx → EReal :=
  broadcastInDim S2x2x6400 ![0, 1, 2] bcast_S1x2x6400_S2x2x6400_0_1_2 (broadcastInDim S1x2x6400 ![1, 2] bcast_S2x6400_S1x2x6400_1_2
    (Host.divf (F := Ideal) (φ := .f32) (shapeCast S2x6400 places shapeCasts_S2x80x80_S2x6400) (broadcastInDim S2x6400 ![] bcast_S_S2x6400 (constant S_ .f32 0x41000000#32))))

/-- The next three, of each batch's image. -/
def colourFeatures (x1 : S2x3x80x80.Idx → EReal) : S2x3x6400.Idx → EReal :=
  Host.divf (F := Ideal) (φ := .f32) (shapeCast S2x3x6400 x1 shapeCasts_S2x3x80x80_S2x3x6400) (broadcastInDim S2x3x6400 ![] bcast_S_S2x3x6400 (constant S_ .f32 0x3E000000#32))

/-- The last three. -/
def noFeatures : S2x3x6400.Idx → EReal := broadcastInDim S2x3x6400 ![] bcast_S_S2x3x6400 (constant (F := Ideal) S_ .f32 0x00000000#32)

/-- The feature array. -/
def features (x1 : S2x3x80x80.Idx → EReal) : S2x8x6400.Idx → EReal :=
  concatenate S2x8x6400 1 [⟨S2x2x6400, placeFeatures⟩, ⟨S2x3x6400, colourFeatures x1⟩, ⟨S2x3x6400, noFeatures⟩]
    concatenates_S2x2x6400_S2x3x6400_S2x3x6400_S2x8x6400_d1

/-- The host lines leave it, -/
theorem features_left (V : Valuation τ sig (Elt Ideal)) :
    after hostOps0 V (Proc.devRef .tc main_call0_v14) = features (V (Proc.devRef .tc main_arg1)) := by
  after_reads_simp
  rfl

/-- and the state with its pixels in one row. -/
theorem state_left (V : Valuation τ sig (Elt Ideal)) :
    after hostOps0 V (Proc.devRef .tc main_call0_v15) = shapeCast S2x21x6400 (V (Proc.devRef .tc main_arg0)) shapeCasts_S2x21x80x80_S2x21x6400 := by
  after_reads_simp
  rfl

/-! ## At an index -/

/-- The place of pixel `n` in channel `c` of batch `b` of the image. -/
abbrev colourAt (b : Fin 2) (c : Fin 3) (n : Pixel) : S2x3x80x80.Idx :=
  ix4 b c ⟨n.val / 80, by omega⟩ ⟨n.val % 80, by omega⟩

/-- And of the state. -/
abbrev stateAt (b : Fin 2) (c : Fin 21) (n : Pixel) : S2x21x80x80.Idx :=
  ix4 b c ⟨n.val / 80, by omega⟩ ⟨n.val % 80, by omega⟩

/-- The first plane of the coordinates holds the columns, the second the rows. -/
theorem columns_apply (r c : Fin 80) : places (ix3 0 r c) = ((c.val : ℝ) : EReal) := by
  unfold places
  refine (concatenate_pair_apply_left (s₁ := S1x80x80) (t := S2x80x80) 0 _ _ _ (ix3 0 r c) rfl (ix3 0 r c)
    (fun b => match b with | ⟨0, _⟩ => rfl | ⟨1, _⟩ => rfl | ⟨2, _⟩ => rfl)).trans ?_
  refine (broadcastInDim_apply (s := S80x80) (t := S1x80x80) _ _ _ (ix3 0 r c) (ix2 r c) (fun a => match a with
    | ⟨0, _⟩ => rfl | ⟨1, _⟩ => rfl)).trans ?_
  show (((BitVec.ofNat 32 c.val).toInt : ℝ) : EReal) = _
  rw [Reference.word_read c.isLt]

theorem rows_apply (r c : Fin 80) : places (ix3 1 r c) = ((r.val : ℝ) : EReal) := by
  unfold places
  refine (concatenate_apply_piece (t := S2x80x80) 0 _ _ (ix3 1 r c) 1 (by exact Nat.one_lt_two) S1x80x80 _ rfl rfl 1 rfl (ix3 0 r c)
    (fun b hb => match b with | ⟨0, _⟩ => absurd rfl hb | ⟨1, _⟩ => rfl | ⟨2, _⟩ => rfl) rfl).trans ?_
  refine (broadcastInDim_apply (s := S80x80) (t := S1x80x80) _ _ _ (ix3 0 r c) (ix2 r c) (fun a => match a with
    | ⟨0, _⟩ => rfl | ⟨1, _⟩ => rfl)).trans ?_
  show (((BitVec.ofNat 32 r.val).toInt : ℝ) : EReal) = _
  rw [Reference.word_read r.isLt]

/-- The two planes of coordinates, one pixel after the other. -/
theorem places_flat (k : Fin 2) (n : Pixel) :
    shapeCast S2x6400 places shapeCasts_S2x80x80_S2x6400 (ix2 k n) = places (ix3 k ⟨n.val / 80, by omega⟩ ⟨n.val % 80, by omega⟩) := by
  have hn : n.val < 6400 := n.isLt
  refine shapeCast_apply _ _ _ (ix3 k ⟨n.val / 80, by omega⟩ ⟨n.val % 80, by omega⟩) ?_
  rw [Shape.rowMajor_val_two, Shape.rowMajor_val_three]
  show (k.val * 80 + n.val / 80) * 80 + n.val % 80 = k.val * 6400 + n.val
  omega

/-- The first two features are the coordinates divided by eight. -/
theorem placeFeatures_div (b k : Fin 2) (n : Pixel) :
    placeFeatures (ix3 b k n) = Ideal.div (places (ix3 k ⟨n.val / 80, by omega⟩ ⟨n.val % 80, by omega⟩)) ((8 : ℝ) : EReal) := by
  unfold placeFeatures
  refine (broadcastInDim_apply (s := S1x2x6400) (t := S2x2x6400) _ _ _ (ix3 b k n) (ix3 0 k n) (fun a => match a with
    | ⟨0, _⟩ => rfl | ⟨1, _⟩ => rfl | ⟨2, _⟩ => rfl)).trans ?_
  refine (broadcastInDim_apply (s := S2x6400) (t := S1x2x6400) _ _ _ (ix3 0 k n) (ix2 k n) (fun a => match a with
    | ⟨0, _⟩ => rfl | ⟨1, _⟩ => rfl)).trans ?_
  exact congrArg₂ Ideal.div (places_flat k n) Reference.bits_eight

/-- The first two features of a pixel. -/
theorem placeFeatures_apply (x : Fin 3 → Pixel → ℝ) (b k : Fin 2) (n : Pixel) :
    placeFeatures (ix3 b k n) = (feature x k.val n : EReal) := by
  rw [placeFeatures_div]
  unfold feature
  rcases (show k = 0 ∨ k = 1 by omega) with rfl | rfl
  · rw [columns_apply, Reference.div_real _ _ (by norm_num), if_pos (by rfl)]
  · rw [rows_apply, Reference.div_real _ _ (by norm_num), if_neg (by decide), if_pos (by rfl)]

/-- A pixel's scaled colours. -/
theorem colourFeatures_apply (x1 : S2x3x80x80.Idx → EReal) (b : Fin 2) (x : Fin 3 → Pixel → ℝ)
    (hx : ∀ c n, x1 (colourAt b c n) = (x c n : EReal)) (c : Fin 3) (n : Pixel) :
    colourFeatures x1 (ix3 b c n) = ((x c n / (1 / 8) : ℝ) : EReal) := by
  have hn : n.val < 6400 := n.isLt
  unfold colourFeatures
  show Ideal.div (shapeCast S2x3x6400 x1 shapeCasts_S2x3x80x80_S2x3x6400 (ix3 b c n)) (Ideal.ofBits .f32 0x3E000000#32) = _
  have e : shapeCast S2x3x6400 x1 shapeCasts_S2x3x80x80_S2x3x6400 (ix3 b c n) = x1 (colourAt b c n) := by
    refine shapeCast_apply _ _ _ (colourAt b c n) ?_
    rw [Shape.rowMajor_val_three, Shape.rowMajor_val_four]
    show ((b.val * 3 + c.val) * 80 + n.val / 80) * 80 + n.val % 80 = (b.val * 3 + c.val) * 6400 + n.val
    omega
  rw [e, hx, Reference.bits_eighth, Reference.div_real _ _ (by norm_num)]

/-- **The feature array at an index.** -/
theorem features_apply (x1 : S2x3x80x80.Idx → EReal) (b : Fin 2) (x : Fin 3 → Pixel → ℝ)
    (hx : ∀ c n, x1 (colourAt b c n) = (x c n : EReal)) (k : Fin 8) (n : Pixel) :
    features x1 (ix3 b k n) = (feature x k.val n : EReal) := by
  have hk : k.val < 8 := k.isLt
  unfold features
  by_cases h2 : k.val < 2
  · refine (concatenate_apply_piece (t := S2x8x6400) 1 _ _ (ix3 b k n) 0 (by exact Nat.succ_pos 2) S2x2x6400 placeFeatures rfl rfl 0 rfl
      (ix3 b (⟨k.val, h2⟩ : Fin 2) n) (fun b hb => match b with | ⟨0, _⟩ => rfl | ⟨1, _⟩ => absurd rfl hb | ⟨2, _⟩ => rfl)
      (by show 0 + k.val = k.val; omega)).trans ?_
    rw [placeFeatures_apply x]
  by_cases h5 : k.val < 5
  · refine (concatenate_apply_piece (t := S2x8x6400) 1 _ _ (ix3 b k n) 1 (by exact Nat.succ_lt_succ (Nat.succ_pos 1)) S2x3x6400
      (colourFeatures x1) rfl rfl 2 rfl (ix3 b (⟨k.val - 2, by omega⟩ : Fin 3) n)
      (fun b hb => match b with | ⟨0, _⟩ => rfl | ⟨1, _⟩ => absurd rfl hb | ⟨2, _⟩ => rfl)
      (by show 2 + (k.val - 2) = k.val; omega)).trans ?_
    rw [colourFeatures_apply x1 b x hx]
    unfold feature
    rw [if_neg (by omega), if_neg (by omega), dif_pos (by omega)]
  · refine (concatenate_apply_piece (t := S2x8x6400) 1 _ _ (ix3 b k n) 2 (by exact Nat.lt_succ_self 2) S2x3x6400
      noFeatures rfl rfl 5 rfl (ix3 b (⟨k.val - 5, by omega⟩ : Fin 3) n)
      (fun b hb => match b with | ⟨0, _⟩ => rfl | ⟨1, _⟩ => absurd rfl hb | ⟨2, _⟩ => rfl)
      (by show 5 + (k.val - 5) = k.val; omega)).trans ?_
    unfold feature
    rw [if_neg (by omega), if_neg (by omega), dif_neg (by omega)]
    show Ideal.ofBits .f32 0x00000000#32 = _
    rw [Ideal.ofBits_zero_f32, EReal.coe_zero]

/-- The state array at an index. -/
theorem state_apply (x0 : S2x21x80x80.Idx → EReal) (b : Fin 2) (c : Fin 21) (n : Pixel) :
    shapeCast S2x21x6400 x0 shapeCasts_S2x21x80x80_S2x21x6400 (ix3 b c n) = x0 (stateAt b c n) := by
  have hn : n.val < 6400 := n.isLt
  refine shapeCast_apply _ _ _ (stateAt b c n) ?_
  rw [Shape.rowMajor_val_three, Shape.rowMajor_val_four]
  show ((b.val * 21 + c.val) * 80 + n.val / 80) * 80 + n.val % 80 = (b.val * 21 + c.val) * 6400 + n.val
  omega

end Cert.Proof.Entry

end
-- ==== Proof.Payload.lean ====
/-
  The ideal kernel's payloads read at an index: the block of weights, and the two products that add a block of the
  state, weighted, to a block of the output.
-/
module

public import proofs.«01_k».proof.Proof.Gen.KernelIdeal.Skeleton
public import proofs.«01_k».proof.Proof.Weights
public import Idealize.ShloMosaic.Lib.ValueIdxCore
public import Idealize.ShloMosaic.Lib.Pipeline.Value
public import Idealize.ShloMosaic.PureOps.Ideal.Laws

@[expose] public section

set_option maxRecDepth 16384

noncomputable section

namespace Cert.Proof.Payload

open Cert.KernelIdeal Cert.KernelIdeal.Gen Cert.Proof.Weights
open Idealize.ShloMosaic Idealize.ShloMosaic.ValueIdx
open scoped BigOperators

/-- The left operand's free coordinate in the products of features. -/
theorem products_lhs (i : S1280x1280.Idx) (q : dot_S8x1280_S8x1280_S1280x1280_0_0_1_1_n_n.contr.Idx) :
    (dot_S8x1280_S8x1280_S1280x1280_0_0_1_1_n_n.lhsIdx i q 1).val = (i 0).val := by
  unfold DotDims.lhsIdx
  rw [dif_neg (show ¬(1 : Fin S8x1280.rank) ∈ dot_S8x1280_S8x1280_S1280x1280_0_0_1_1_n_n.lhsBatch by decide),
        dif_pos (show (1 : Fin S8x1280.rank) ∈ dot_S8x1280_S8x1280_S1280x1280_0_0_1_1_n_n.lhsNonContracting by decide)]
  rfl

/-- The right operand's free coordinate in the products of features. -/
theorem products_rhs (i : S1280x1280.Idx) (q : dot_S8x1280_S8x1280_S1280x1280_0_0_1_1_n_n.contr.Idx) :
    (dot_S8x1280_S8x1280_S1280x1280_0_0_1_1_n_n.rhsIdx i q 1).val = (i 1).val := by
  unfold DotDims.rhsIdx
  rw [dif_neg (show ¬(1 : Fin S8x1280.rank) ∈ dot_S8x1280_S8x1280_S1280x1280_0_0_1_1_n_n.rhsBatch by decide),
        dif_pos (show (1 : Fin S8x1280.rank) ∈ dot_S8x1280_S8x1280_S1280x1280_0_0_1_1_n_n.rhsNonContracting by decide)]
  rfl

/-- The left operand's free coordinate in the first product. -/
theorem firsts_lhs (i : S21x1280.Idx) (q : dot_S21x1280_S1280x1280_S21x1280_1_1_0_0_n_n.contr.Idx) :
    (dot_S21x1280_S1280x1280_S21x1280_1_1_0_0_n_n.lhsIdx i q 0).val = (i 0).val := by
  unfold DotDims.lhsIdx
  rw [dif_neg (show ¬(0 : Fin S21x1280.rank) ∈ dot_S21x1280_S1280x1280_S21x1280_1_1_0_0_n_n.lhsBatch by decide),
        dif_pos (show (0 : Fin S21x1280.rank) ∈ dot_S21x1280_S1280x1280_S21x1280_1_1_0_0_n_n.lhsNonContracting by decide)]
  rfl

/-- The right operand's free coordinate in the first product. -/
theorem firsts_rhs (i : S21x1280.Idx) (q : dot_S21x1280_S1280x1280_S21x1280_1_1_0_0_n_n.contr.Idx) :
    (dot_S21x1280_S1280x1280_S21x1280_1_1_0_0_n_n.rhsIdx i q 0).val = (i 1).val := by
  unfold DotDims.rhsIdx
  rw [dif_neg (show ¬(0 : Fin S1280x1280.rank) ∈ dot_S21x1280_S1280x1280_S21x1280_1_1_0_0_n_n.rhsBatch by decide),
        dif_pos (show (0 : Fin S1280x1280.rank) ∈ dot_S21x1280_S1280x1280_S21x1280_1_1_0_0_n_n.rhsNonContracting by decide)]
  rfl

/-- The left operand's free coordinate in the second product. -/
theorem seconds_lhs (i : S21x1280.Idx) (q : dot_S21x1280_S1280x1280_S21x1280_1_0_0_1_n_n.contr.Idx) :
    (dot_S21x1280_S1280x1280_S21x1280_1_0_0_1_n_n.lhsIdx i q 0).val = (i 0).val := by
  unfold DotDims.lhsIdx
  rw [dif_neg (show ¬(0 : Fin S21x1280.rank) ∈ dot_S21x1280_S1280x1280_S21x1280_1_0_0_1_n_n.lhsBatch by decide),
        dif_pos (show (0 : Fin S21x1280.rank) ∈ dot_S21x1280_S1280x1280_S21x1280_1_0_0_1_n_n.lhsNonContracting by decide)]
  rfl

/-- The right operand's free coordinate in the second product. -/
theorem seconds_rhs (i : S21x1280.Idx) (q : dot_S21x1280_S1280x1280_S21x1280_1_0_0_1_n_n.contr.Idx) :
    (dot_S21x1280_S1280x1280_S21x1280_1_0_0_1_n_n.rhsIdx i q 1).val = (i 1).val := by
  unfold DotDims.rhsIdx
  rw [dif_neg (show ¬(1 : Fin S1280x1280.rank) ∈ dot_S21x1280_S1280x1280_S21x1280_1_0_0_1_n_n.rhsBatch by decide),
        dif_pos (show (1 : Fin S1280x1280.rank) ∈ dot_S21x1280_S1280x1280_S21x1280_1_0_0_1_n_n.rhsNonContracting by decide)]
  rfl

variable (x : Fin 3 → Pixel → ℝ) (n j : Fin 1280 → Pixel) (u w : S8x1280.Idx → EReal)

/-- The sums of the squares down the columns. -/
theorem squares_apply (hu : ∀ (k : Fin 8) p, u (ix2 k p) = (feature x k.val (n p) : EReal)) (p : Fin 1280) :
    multiReduction (F := Ideal) .add [0] S1280 (mulf u u) 0x00000000#32 reduces_S8x1280_S1280 (.inl rfl) rfl (ix1 p) = (dot x (n p) (n p) : EReal) := by
  refine (Ideal.multiReduction_add_single _ _ _ _ _ _).trans ?_
  rw [← dot_eight, coe_sum]
  refine Finset.sum_congr rfl fun k _ => ?_
  have e : reduces_S8x1280_S1280.lift (ix1 p) k = ix2 k p :=
    funext fun a => Fin.ext (match a with | ⟨0, _⟩ => rfl | ⟨1, _⟩ => rfl)
  rw [e]
  exact (congrArg₂ (· * ·) (hu k p) (hu k p)).trans (EReal.coe_mul _ _).symm

/-- The products of the columns. -/
theorem dots_apply (hu : ∀ (k : Fin 8) p, u (ix2 k p) = (feature x k.val (n p) : EReal))
    (hw : ∀ (k : Fin 8) q, w (ix2 k q) = (feature x k.val (j q) : EReal)) (p q : Fin 1280) :
    matmul (F := Ideal) (φ₁ := .f32) (φ₂ := .f32) dot_S8x1280_S8x1280_S1280x1280_0_0_1_1_n_n none u w (constant S1280x1280 .f32 0x00000000#32) (ix2 p q) =
      (dot x (n p) (j q) : EReal) := by
  refine (Ideal.matmul_constant_zero_apply _ _ _ _ _).trans ?_
  rw [← Equiv.sum_comp (contrEquiv1 dot_S8x1280_S8x1280_S1280x1280_0_0_1_1_n_n 8 rfl rfl).symm, ← dot_eight, coe_sum]
  refine Finset.sum_congr rfl fun k _ => ?_
  have hk := contrEquiv1_symm_val dot_S8x1280_S8x1280_S1280x1280_0_0_1_1_n_n 8 rfl rfl k
  have el : dot_S8x1280_S8x1280_S1280x1280_0_0_1_1_n_n.lhsIdx (ix2 p q)
      ((contrEquiv1 dot_S8x1280_S8x1280_S1280x1280_0_0_1_1_n_n 8 rfl rfl).symm k) = ix2 k p := funext fun a => Fin.ext (by
    match a with
    | ⟨0, _⟩ => exact (dot_S8x1280_S8x1280_S1280x1280_0_0_1_1_n_n.lhsIdx_val_of_single rfl _ _).trans hk
    | ⟨1, _⟩ => exact products_lhs _ _)
  have er : dot_S8x1280_S8x1280_S1280x1280_0_0_1_1_n_n.rhsIdx (ix2 p q)
      ((contrEquiv1 dot_S8x1280_S8x1280_S1280x1280_0_0_1_1_n_n 8 rfl rfl).symm k) = ix2 k q := funext fun a => Fin.ext (by
    match a with
    | ⟨0, _⟩ => exact (dot_S8x1280_S8x1280_S1280x1280_0_0_1_1_n_n.rhsIdx_val_of_single rfl _ _).trans hk
    | ⟨1, _⟩ => exact products_rhs _ _)
  rw [el, er, hu, hw, ← EReal.coe_mul]

/-- A vector stood up as a column and spread along the rows. -/
theorem column_apply (g : S1280.Idx → EReal) (p q : Fin 1280) :
    broadcastTo S1280x1280 (shapeCast S1280x1 g shapeCasts_S1280_S1280x1) broadcasts_S1280x1_S1280x1280 (ix2 p q) = g (ix1 p) := by
  refine (broadcastTo_apply (s := S1280x1) (t := S1280x1280) _ _ (ix2 p q) (ix2 p 0) (fun a => match a with | ⟨0, _⟩ => rfl | ⟨1, _⟩ => rfl)).trans ?_
  refine shapeCast_apply _ _ _ (ix1 p) ?_
  rw [Shape.rowMajor_val_one, Shape.rowMajor_val_two]
  show p.val = p.val * 1 + 0
  omega

/-- A vector laid down as a row and spread down the columns. -/
theorem row_apply (g : S1280.Idx → EReal) (p q : Fin 1280) :
    broadcastTo S1280x1280 (shapeCast S1x1280 g shapeCasts_S1280_S1x1280) broadcasts_S1x1280_S1280x1280 (ix2 p q) = g (ix1 q) := by
  refine (broadcastTo_apply (s := S1x1280) (t := S1280x1280) _ _ (ix2 p q) (ix2 0 q) (fun a => match a with | ⟨0, _⟩ => rfl | ⟨1, _⟩ => rfl)).trans ?_
  refine shapeCast_apply _ _ _ (ix1 q) ?_
  rw [Shape.rowMajor_val_one, Shape.rowMajor_val_two]
  show q.val = 0 * 1280 + q.val
  omega

/-- A vector scaled by the first named constant. -/
theorem scaled_apply (g : S1280.Idx → EReal) (p : Fin 1280) :
    mulf (F := Ideal) (φ := .f32) (broadcast S1280 (Named.named κ "nhalf_log2e" 0xBF38AA3B#32)) g (ix1 p) =
      (((-1 / 2) * (Real.log 2)⁻¹ : ℝ) : EReal) * g (ix1 p) := rfl

/-- The power of two of the clipped sum of three terms, the third scaled by the second named constant. -/
theorem power_apply (a b g : S1280x1280.Idx → EReal) (i : S1280x1280.Idx) :
    exp2 (F := Ideal) (φ := .f32) (minimumf (addf (addf a b) (mulf (broadcast S1280x1280 (Named.named κ "log2e" 0x3FB8AA3B#32)) g))
      (broadcast S1280x1280 (Scalar.ofBits .f32 0x00000000#32))) i =
      Ideal.exp2 (min (a i + b i + (((Real.log 2)⁻¹ : ℝ) : EReal) * g i) (Ideal.ofBits .f32 0x00000000#32)) := rfl

/-- The block of weights between two blocks of pixels. -/
theorem weights_apply (hu : ∀ (k : Fin 8) p, u (ix2 k p) = (feature x k.val (n p) : EReal))
    (hw : ∀ (k : Fin 8) q, w (ix2 k q) = (feature x k.val (j q) : EReal)) (p q : Fin 1280) :
    k0_pay1 (F := Ideal) u w (ix2 p q) = (weight x (n p) (j q) : EReal) := by
  unfold k0_pay1
  refine (power_apply _ _ _ _).trans ?_
  rw [column_apply, row_apply, dots_apply x n j u w hu hw, scaled_apply, scaled_apply, squares_apply x n u hu,
    squares_apply x j w hw, Ideal.ofBits_zero_f32, ← EReal.coe_mul, ← EReal.coe_mul, ← EReal.coe_mul, ← EReal.coe_add,
    ← EReal.coe_add, ← EReal.coe_zero, ← EReal.coe_strictMono.monotone.map_min, Ideal.exp2_coe, weight_eq_rpow]

/-- A block of the state or of the output without its unit axis, and with it. -/
theorem flat_apply (v : S1x21x1280.Idx → EReal) (c : Fin 21) (p : Fin 1280) :
    shapeCast S21x1280 v shapeCasts_S1x21x1280_S21x1280 (ix2 c p) = v (ix3 0 c p) := by
  refine shapeCast_apply _ _ _ (ix3 0 c p) ?_
  rw [Shape.rowMajor_val_two, Shape.rowMajor_val_three]
  show (0 * 21 + c.val) * 1280 + p.val = c.val * 1280 + p.val
  omega

theorem deep_apply (v : S21x1280.Idx → EReal) (c : Fin 21) (p : Fin 1280) :
    shapeCast S1x21x1280 v shapeCasts_S21x1280_S1x21x1280 (ix3 0 c p) = v (ix2 c p) := by
  refine shapeCast_apply _ _ _ (ix2 c p) ?_
  rw [Shape.rowMajor_val_two, Shape.rowMajor_val_three]
  show c.val * 1280 + p.val = (0 * 21 + c.val) * 1280 + p.val
  omega

/-- A block of features without its unit axis. -/
theorem features_apply (v : S1x8x1280.Idx → EReal) (k : Fin 8) (p : Fin 1280) :
    shapeCast S8x1280 v shapeCasts_S1x8x1280_S8x1280 (ix2 k p) = v (ix3 0 k p) := by
  refine shapeCast_apply _ _ _ (ix3 0 k p) ?_
  rw [Shape.rowMajor_val_two, Shape.rowMajor_val_three]
  show (0 * 8 + k.val) * 1280 + p.val = k.val * 1280 + p.val
  omega

/-- The first product: the output's block of the pair's first pixels takes the state's block of its second. -/
theorem first_apply (hu : ∀ (k : Fin 8) p, u (ix2 k p) = (feature x k.val (n p) : EReal))
    (hw : ∀ (k : Fin 8) q, w (ix2 k q) = (feature x k.val (j q) : EReal)) (v o : S1x21x1280.Idx → EReal) (c : Fin 21) (p : Fin 1280) :
    k0_pay2 (F := Ideal) u w v o (ix3 0 c p) = o (ix3 0 c p) + ∑ q : Fin 1280, (weight x (n p) (j q) : EReal) * v (ix3 0 c q) := by
  unfold k0_pay2
  refine (deep_apply _ c p).trans ?_
  show shapeCast S21x1280 o shapeCasts_S1x21x1280_S21x1280 (ix2 c p) + matmul (F := Ideal) (φ₁ := .f32) (φ₂ := .f32) dot_S21x1280_S1280x1280_S21x1280_1_1_0_0_n_n none
    (shapeCast S21x1280 v shapeCasts_S1x21x1280_S21x1280) (k0_pay1 u w) (constant S21x1280 .f32 0x00000000#32) (ix2 c p) = _
  rw [flat_apply]
  refine congrArg (o (ix3 0 c p) + ·) ?_
  refine (Ideal.matmul_constant_zero_apply _ _ _ _ _).trans ?_
  rw [← Equiv.sum_comp (contrEquiv1 dot_S21x1280_S1280x1280_S21x1280_1_1_0_0_n_n 1280 rfl rfl).symm]
  refine Finset.sum_congr rfl fun k _ => ?_
  have hk := contrEquiv1_symm_val dot_S21x1280_S1280x1280_S21x1280_1_1_0_0_n_n 1280 rfl rfl k
  have el : dot_S21x1280_S1280x1280_S21x1280_1_1_0_0_n_n.lhsIdx (ix2 c p)
      ((contrEquiv1 dot_S21x1280_S1280x1280_S21x1280_1_1_0_0_n_n 1280 rfl rfl).symm k) = ix2 c k := funext fun a => Fin.ext (by
    match a with
    | ⟨0, _⟩ => exact firsts_lhs _ _
    | ⟨1, _⟩ => exact (dot_S21x1280_S1280x1280_S21x1280_1_1_0_0_n_n.lhsIdx_val_of_single rfl _ _).trans hk)
  have er : dot_S21x1280_S1280x1280_S21x1280_1_1_0_0_n_n.rhsIdx (ix2 c p)
      ((contrEquiv1 dot_S21x1280_S1280x1280_S21x1280_1_1_0_0_n_n 1280 rfl rfl).symm k) = ix2 p k := funext fun a => Fin.ext (by
    match a with
    | ⟨0, _⟩ => exact firsts_rhs _ _
    | ⟨1, _⟩ => exact (dot_S21x1280_S1280x1280_S21x1280_1_1_0_0_n_n.rhsIdx_val_of_single rfl _ _).trans hk)
  rw [el, er, flat_apply, weights_apply x n j u w hu hw, mul_comm]

/-- The second product: the output's block of the pair's second pixels takes the state's block of its first. -/
theorem second_apply (hu : ∀ (k : Fin 8) p, u (ix2 k p) = (feature x k.val (n p) : EReal))
    (hw : ∀ (k : Fin 8) q, w (ix2 k q) = (feature x k.val (j q) : EReal)) (v o : S1x21x1280.Idx → EReal) (c : Fin 21) (q : Fin 1280) :
    k0_pay3 (F := Ideal) u w v o (ix3 0 c q) = o (ix3 0 c q) + ∑ p : Fin 1280, (weight x (j q) (n p) : EReal) * v (ix3 0 c p) := by
  unfold k0_pay3
  refine (deep_apply _ c q).trans ?_
  show shapeCast S21x1280 o shapeCasts_S1x21x1280_S21x1280 (ix2 c q) + matmul (F := Ideal) (φ₁ := .f32) (φ₂ := .f32) dot_S21x1280_S1280x1280_S21x1280_1_0_0_1_n_n none
    (shapeCast S21x1280 v shapeCasts_S1x21x1280_S21x1280) (k0_pay1 u w) (constant S21x1280 .f32 0x00000000#32) (ix2 c q) = _
  rw [flat_apply]
  refine congrArg (o (ix3 0 c q) + ·) ?_
  refine (Ideal.matmul_constant_zero_apply _ _ _ _ _).trans ?_
  rw [← Equiv.sum_comp (contrEquiv1 dot_S21x1280_S1280x1280_S21x1280_1_0_0_1_n_n 1280 rfl rfl).symm]
  refine Finset.sum_congr rfl fun k _ => ?_
  have hk := contrEquiv1_symm_val dot_S21x1280_S1280x1280_S21x1280_1_0_0_1_n_n 1280 rfl rfl k
  have el : dot_S21x1280_S1280x1280_S21x1280_1_0_0_1_n_n.lhsIdx (ix2 c q)
      ((contrEquiv1 dot_S21x1280_S1280x1280_S21x1280_1_0_0_1_n_n 1280 rfl rfl).symm k) = ix2 c k := funext fun a => Fin.ext (by
    match a with
    | ⟨0, _⟩ => exact seconds_lhs _ _
    | ⟨1, _⟩ => exact (dot_S21x1280_S1280x1280_S21x1280_1_0_0_1_n_n.lhsIdx_val_of_single rfl _ _).trans hk)
  have er : dot_S21x1280_S1280x1280_S21x1280_1_0_0_1_n_n.rhsIdx (ix2 c q)
      ((contrEquiv1 dot_S21x1280_S1280x1280_S21x1280_1_0_0_1_n_n 1280 rfl rfl).symm k) = ix2 k q := funext fun a => Fin.ext (by
    match a with
    | ⟨0, _⟩ => exact (dot_S21x1280_S1280x1280_S21x1280_1_0_0_1_n_n.rhsIdx_val_of_single rfl _ _).trans hk
    | ⟨1, _⟩ => exact seconds_rhs _ _)
  rw [el, er, flat_apply, weights_apply x n j u w hu hw, weight_comm, mul_comm]

/-- The cleared output is zero. -/
theorem cleared_apply (i : S1x21x6400.Idx) : k0_pay4 (F := Ideal) i = 0 := by
  show Ideal.ofBits .f32 0x00000000#32 = 0
  exact Ideal.ofBits_zero_f32

end Cert.Proof.Payload

end
-- ==== Proof.Sums.lean ====
/-
  How the ideal kernel's output block fills up: at a grid point, one block of the output takes one weighted block of the
  state and, off the diagonal, a second takes another; over a batch's fifteen points every pixel takes all five blocks.
-/
module

public import proofs.«01_k».proof.Proof.ExactBody
public import proofs.«01_k».proof.Proof.Payload

@[expose] public section

set_option maxRecDepth 16384

noncomputable section

namespace Cert.Proof.Sums

open Cert.KernelIdeal Cert.KernelIdeal.Gen Cert.Proof.Weights
open Cert.Proof.Exact (clears started summedOnce summedTwice afterPoint clears_iff off1_eq off2_eq off3_eq off4_eq)
open Idealize.ShloMosaic Idealize.ShloMosaic.ValueIdx
open scoped BigOperators

/-! ## Blocks of pixels -/

/-- Pixel `p` of block `B` (the blocks are taken around, so that the number is always a pixel's). -/
def pixel (B : ℕ) (p : Fin 1280) : Pixel := ⟨(1280 * B + p.val) % 6400, Nat.mod_lt _ (by norm_num)⟩

theorem pixel_val {B : ℕ} (hB : B < 5) (p : Fin 1280) : (pixel B p).val = 1280 * B + p.val := by
  have := p.isLt
  show (1280 * B + p.val) % 6400 = _
  omega

/-- A sum over the pixels, block by block. -/
theorem sum_blocks (f : Pixel → EReal) : ∑ J ∈ Finset.range 5, ∑ p : Fin 1280, f (pixel J p) = ∑ n : Pixel, f n := by
  rw [Finset.sum_range, ← Fintype.sum_prod_type']
  refine Fintype.sum_equiv (finProdFinEquiv (m := 5) (n := 1280)) _ _ fun z => congrArg f (Fin.ext ?_)
  rw [pixel_val z.1.isLt]
  show 1280 * z.1.val + z.2.val = z.2.val + 1280 * z.1.val
  omega

/-- The first block of a batch's point `r`, and the second. -/
abbrev fst (r : ℕ) : ℕ := (3 * (r / 3) + 5 - r % 3) % 5
abbrev snd (r : ℕ) : ℕ := (3 * (r / 3) + r % 3) % 5

/-- What point `r` of a batch adds at a pixel of block `B`, `h J` being what block `J` of the state adds there. -/
def added (h : ℕ → EReal) (B r : ℕ) : EReal :=
  (if fst r = B then h (snd r) else 0) + (if r % 3 ≠ 0 ∧ snd r = B then h (fst r) else 0)

set_option maxHeartbeats 1000000 in
/-- Over a batch's points every block is added once, whatever block the pixel is in. -/
theorem added_all (h : ℕ → EReal) (B : ℕ) (hB : B < 5) : ∑ r ∈ Finset.range 15, added h B r = ∑ J ∈ Finset.range 5, h J := by
  interval_cases B <;> simp [Finset.sum_range_succ, added, fst, snd] <;> abel

/-! ## One point at an index -/

/-- A block read out of the state, -/
theorem window_apply (v : S1x21x6400.Idx → EReal) (B : ℕ) (hB : B < 5) (off : Fin 3 → ℕ) (hoff : off = ![0, 0, 1280 * B])
    (inb : ∀ a, off a + S1x21x1280.size a ≤ S1x21x6400.size a) (ch : Fin 21) (p : Fin 1280) :
    VecWindow.window (s := S1x21x6400) v off S1x21x1280.size inb (ix3 0 ch p) = v (ix3 0 ch (pixel B p)) := by
  subst hoff
  refine congrArg v (funext fun a => Fin.ext (match a with
    | ⟨0, _⟩ => rfl
    | ⟨1, _⟩ => ?_
    | ⟨2, _⟩ => ?_))
  · show 0 + 1 * ch.val = ch.val
    omega
  · show 1280 * B + 1 * p.val = (pixel B p).val
    rw [pixel_val hB]
    omega

/-- and a block put into the output, at a pixel inside it -/
theorem put_inside (o : S1x21x6400.Idx → EReal) (B : ℕ) (off : Fin 3 → ℕ) (hoff : off = ![0, 0, 1280 * B])
    (w : S1x21x1280.Idx → EReal) (ch : Fin 21) (n : Pixel) (hn : n.val / 1280 = B) :
    VecWindow.put (s := S1x21x6400) o off S1x21x1280.size w (ix3 0 ch n) = w (ix3 0 ch ⟨n.val % 1280, Nat.mod_lt _ (by norm_num)⟩) := by
  subst hoff
  unfold VecWindow.put
  have h : ∀ a : Fin 3, (![0, 0, 1280 * B] : Fin 3 → ℕ) a ≤ ((ix3 0 ch n : S1x21x6400.Idx) a).val ∧
      ((ix3 0 ch n : S1x21x6400.Idx) a).val < (![0, 0, 1280 * B] : Fin 3 → ℕ) a + S1x21x1280.size a := fun a => by
    match a with
    | ⟨0, _⟩ => exact ⟨Nat.le_refl 0, Nat.one_pos⟩
    | ⟨1, _⟩ => exact ⟨Nat.zero_le _, by show ch.val < 0 + 21; omega⟩
    | ⟨2, _⟩ => exact ⟨by show 1280 * B ≤ n.val; omega, by show n.val < 1280 * B + 1280; omega⟩
  rw [dif_pos h]
  refine congrArg w (funext fun a => Fin.ext (match a with
    | ⟨0, _⟩ => rfl
    | ⟨1, _⟩ => rfl
    | ⟨2, _⟩ => ?_))
  show n.val - 1280 * B = n.val % 1280
  omega

/-- and at a pixel outside it. -/
theorem put_outside (o : S1x21x6400.Idx → EReal) (B : ℕ) (off : Fin 3 → ℕ) (hoff : off = ![0, 0, 1280 * B])
    (w : S1x21x1280.Idx → EReal) (ch : Fin 21) (n : Pixel) (hn : n.val / 1280 ≠ B) :
    VecWindow.put (s := S1x21x6400) o off S1x21x1280.size w (ix3 0 ch n) = o (ix3 0 ch n) := by
  subst hoff
  unfold VecWindow.put
  rw [dif_neg]
  intro h
  have h2 := h (2 : Fin 3)
  have h3 : 1280 * B ≤ n.val ∧ n.val < 1280 * B + 1280 := h2
  omega

/-- What block `J` of channel `V` adds at pixel `n`. -/
def share (x : Fin 3 → Pixel → ℝ) (V : Pixel → EReal) (n : Pixel) (J : ℕ) : EReal :=
  ∑ q : Fin 1280, (weight x n (pixel J q) : EReal) * V (pixel J q)

/-- Over the five blocks it is the whole weighted sum. -/
theorem share_all (x : Fin 3 → Pixel → ℝ) (V : Pixel → EReal) (n : Pixel) : ∑ J ∈ Finset.range 5, share x V n J = blurred x V n :=
  sum_blocks fun j => (weight x n j : EReal) * V j

theorem pixel_of {n : Pixel} {B : ℕ} (hB : B < 5) (hn : n.val / 1280 = B) : pixel B ⟨n.val % 1280, Nat.mod_lt _ (by norm_num)⟩ = n :=
  Fin.ext (by rw [pixel_val hB]; show 1280 * B + n.val % 1280 = n.val; omega)

variable (x : Fin 3 → Pixel → ℝ) (V : Fin 21 → Pixel → EReal)

/-- The first sum of a point at grid coordinates `i`. -/
theorem once_apply (i : grid0.Coords) (x0 x1 : S1x8x1280.Idx → EReal) (v o : S1x21x6400.Idx → EReal)
    (h0 : ∀ (k : Fin 8) p, x0 (ix3 0 k p) = (feature x k.val (pixel ((3 * (i 1).val + 5 - (i 2).val) % 5) p) : EReal))
    (h1 : ∀ (k : Fin 8) p, x1 (ix3 0 k p) = (feature x k.val (pixel ((3 * (i 1).val + (i 2).val) % 5) p) : EReal))
    (hv : ∀ ch n, v (ix3 0 ch n) = V ch n) (ch : Fin 21) (n : Pixel) :
    summedOnce (F := Ideal) i x0 x1 v o (ix3 0 ch n) = o (ix3 0 ch n) +
      if (3 * (i 1).val + 5 - (i 2).val) % 5 = n.val / 1280 then share x (V ch) n ((3 * (i 1).val + (i 2).val) % 5) else 0 := by
  have hA : (3 * (i 1).val + 5 - (i 2).val) % 5 < 5 := Nat.mod_lt _ (by norm_num)
  have hB : (3 * (i 1).val + (i 2).val) % 5 < 5 := Nat.mod_lt _ (by norm_num)
  unfold summedOnce
  by_cases h : (3 * (i 1).val + 5 - (i 2).val) % 5 = n.val / 1280
  · rw [put_inside _ _ _ (off2_eq i) _ ch n h.symm, if_pos h]
    refine (Payload.first_apply x (pixel ((3 * (i 1).val + 5 - (i 2).val) % 5)) (pixel ((3 * (i 1).val + (i 2).val) % 5)) _ _
      (fun k p => (Payload.features_apply x0 k p).trans (h0 k p)) (fun k p => (Payload.features_apply x1 k p).trans (h1 k p)) _ _ ch _).trans ?_
    rw [window_apply _ _ hA _ (off2_eq i), pixel_of hA h.symm]
    refine congrArg (o (ix3 0 ch n) + ·) (Finset.sum_congr rfl fun q _ => ?_)
    rw [window_apply _ _ hB _ (off1_eq i), hv]
  · rw [put_outside _ _ _ (off2_eq i) _ ch n (Ne.symm h), if_neg h, add_zero]

/-- And the second. -/
theorem twice_apply (i : grid0.Coords) (x0 x1 : S1x8x1280.Idx → EReal) (v o : S1x21x6400.Idx → EReal)
    (h0 : ∀ (k : Fin 8) p, x0 (ix3 0 k p) = (feature x k.val (pixel ((3 * (i 1).val + 5 - (i 2).val) % 5) p) : EReal))
    (h1 : ∀ (k : Fin 8) p, x1 (ix3 0 k p) = (feature x k.val (pixel ((3 * (i 1).val + (i 2).val) % 5) p) : EReal))
    (hv : ∀ ch n, v (ix3 0 ch n) = V ch n) (ch : Fin 21) (n : Pixel) :
    summedTwice (F := Ideal) i x0 x1 v o (ix3 0 ch n) = o (ix3 0 ch n) +
      if k0_cond2 i = 1#1 ∧ (3 * (i 1).val + (i 2).val) % 5 = n.val / 1280 then
        share x (V ch) n ((3 * (i 1).val + 5 - (i 2).val) % 5) else 0 := by
  have hA : (3 * (i 1).val + 5 - (i 2).val) % 5 < 5 := Nat.mod_lt _ (by norm_num)
  have hB : (3 * (i 1).val + (i 2).val) % 5 < 5 := Nat.mod_lt _ (by norm_num)
  unfold summedTwice
  by_cases hc : k0_cond2 i = 1#1
  · rw [dif_pos hc]
    by_cases h : (3 * (i 1).val + (i 2).val) % 5 = n.val / 1280
    · rw [put_inside _ _ _ (off4_eq i) _ ch n h.symm, if_pos ⟨hc, h⟩]
      refine (Payload.second_apply x (pixel ((3 * (i 1).val + 5 - (i 2).val) % 5)) (pixel ((3 * (i 1).val + (i 2).val) % 5)) _ _
        (fun k p => (Payload.features_apply x0 k p).trans (h0 k p)) (fun k p => (Payload.features_apply x1 k p).trans (h1 k p)) _ _ ch _).trans ?_
      rw [window_apply _ _ hB _ (off4_eq i), pixel_of hB h.symm]
      refine congrArg (o (ix3 0 ch n) + ·) (Finset.sum_congr rfl fun q _ => ?_)
      rw [window_apply _ _ hA _ (off3_eq i), hv]
    · rw [put_outside _ _ _ (off4_eq i) _ ch n (Ne.symm h), if_neg (fun e => h e.2), add_zero]
  · rw [dif_neg hc, if_neg (fun e => hc e.1), add_zero]

/-! ## The grid -/

/-- The grid coordinates of point `t`, and its test of the diagonal. -/
theorem coords_eq : ∀ t : Fin cfg0.N, (grid0.coords t 1).val = t.val % 15 / 3 ∧ (grid0.coords t 2).val = t.val % 15 % 3 ∧
    (k0_cond2 (grid0.coords t) = 1#1 ↔ t.val % 15 % 3 ≠ 0) := by decide +kernel

/-- **One grid point at an index**: it starts from zero at a batch's first point and adds its one or two shares. -/
theorem point_apply (t : Fin cfg0.N) (x0 x1 : S1x8x1280.Idx → EReal) (v o : S1x21x6400.Idx → EReal)
    (h0 : ∀ (k : Fin 8) p, x0 (ix3 0 k p) = (feature x k.val (pixel (fst (t.val % 15)) p) : EReal))
    (h1 : ∀ (k : Fin 8) p, x1 (ix3 0 k p) = (feature x k.val (pixel (snd (t.val % 15)) p) : EReal))
    (hv : ∀ ch n, v (ix3 0 ch n) = V ch n) (ch : Fin 21) (n : Pixel) :
    afterPoint (F := Ideal) (grid0.coords t) x0 x1 v o (ix3 0 ch n) =
      (if t.val % 15 = 0 then 0 else o (ix3 0 ch n)) + added (share x (V ch) n) (n.val / 1280) (t.val % 15) := by
  obtain ⟨e1, e2, ec⟩ := coords_eq t
  unfold afterPoint
  rw [twice_apply x V _ _ _ _ _ (by rw [e1, e2]; exact h0) (by rw [e1, e2]; exact h1) hv,
    once_apply x V _ _ _ _ _ (by rw [e1, e2]; exact h0) (by rw [e1, e2]; exact h1) hv]
  have hs : started (F := Ideal) (grid0.coords t) o (ix3 0 ch n) = if t.val % 15 = 0 then 0 else o (ix3 0 ch n) := by
    unfold started
    by_cases h : t.val % 15 = 0
    · rw [if_pos ((clears_iff t).mpr h), if_pos h, Payload.cleared_apply]
    · rw [if_neg (fun e => h ((clears_iff t).mp e)), if_neg h]
  rw [hs, e1, e2, add_assoc]
  refine congrArg ((if t.val % 15 = 0 then (0 : EReal) else o (ix3 0 ch n)) + ·) ?_
  unfold added
  simp only [ec]

end Cert.Proof.Sums

end
-- ==== Proof.Blocks.lean ====
/-
  What the ideal kernel's windows stage at each grid point, and what the output's buffer holds after it: the shares the
  batch's points so far have added.
-/
module

public import proofs.«01_k».proof.Proof.Entry
public import proofs.«01_k».proof.Proof.Sums

@[expose] public section

set_option maxRecDepth 16384

noncomputable section

namespace Cert.Proof.Blocks

open Cert.KernelIdeal Cert.KernelIdeal.Gen Cert.Proof.Weights Cert.Proof.Entry
open Cert.Proof.Sums (pixel pixel_val fst snd added added_all share share_all point_apply)
open Cert.Proof.Exact (entryAll entry block pointOn left)
open Idealize.ShloMosaic Idealize.ShloMosaic.ValueIdx Idealize.ShloMosaic.TcCoe
open scoped BigOperators

/-! ## Where the blocks are -/

/-- Point `t` is of batch `t / 15`; its first feature block is number `fst`, -/
theorem index_first : ∀ t : Fin cfg0.N, win0_0.index t 0 = t.val / 15 ∧ win0_0.index t 1 = 0 ∧ win0_0.index t 2 = fst (t.val % 15) := by
  decide +kernel
/-- and its second number `snd`. -/
theorem index_second : ∀ t : Fin cfg0.N, win0_1.index t 0 = t.val / 15 ∧ win0_1.index t 1 = 0 ∧ win0_1.index t 2 = snd (t.val % 15) := by
  decide +kernel
/-- The state's block is the batch's, -/
theorem index_state : ∀ t : Fin cfg0.N, win0_2.index t 0 = t.val / 15 ∧ win0_2.index t 1 = 0 ∧ win0_2.index t 2 = 0 := by
  decide +kernel
/-- and so is the output's. -/
theorem index_out : ∀ t : Fin cfg0.N, win0_3.index t 0 = t.val / 15 ∧ win0_3.index t 1 = 0 ∧ win0_3.index t 2 = 0 := by
  decide +kernel

/-- The batch of point `n`. -/
def batch (n : ℕ) : Fin 2 := ⟨n / 15 % 2, Nat.mod_lt _ (by norm_num)⟩

theorem batch_val {n : ℕ} (h : n < cfg0.N) : (batch n).val = n / 15 := by
  have : n < 30 := h
  show n / 15 % 2 = _
  omega

variable (m : (ℓ : Loc nD τ sig) → Buf (Elt Ideal) ℓ) (c : Dev nD)

/-- A point's first feature block, out of the feature array. -/
theorem first_read (t : Fin cfg0.N) (k : Fin 8) (p : Fin 1280) : block m c 0 t (ix3 0 k p) =
    features (m ((c.tc : Thread nD τ).loc main_arg1)) (ix3 (batch t.val) k (pixel (fst (t.val % 15)) p)) := by
  have e : entry m c main_call0_v14 = features (m ((c.tc : Thread nD τ).loc main_arg1)) := features_left _
  rw [← e]
  unfold block
  rw [View.read_apply]
  show entry m c main_call0_v14 _ = _
  congr 1
  obtain ⟨h0, h1, h2⟩ := index_first t
  have hb := batch_val t.isLt
  have hp := pixel_val (B := fst (t.val % 15)) (Nat.mod_lt _ (by norm_num)) p
  exact funext fun a => Fin.ext (match a with
    | ⟨0, _⟩ => by show win0_0.index t 0 * 1 + 1 * 0 = (batch t.val).val; omega
    | ⟨1, _⟩ => by show win0_0.index t 1 * 8 + 1 * k.val = k.val; omega
    | ⟨2, _⟩ => by show win0_0.index t 2 * 1280 + 1 * p.val = (pixel (fst (t.val % 15)) p).val; rw [hp, h2]; omega)

/-- Its second. -/
theorem second_read (t : Fin cfg0.N) (k : Fin 8) (p : Fin 1280) : block m c 1 t (ix3 0 k p) =
    features (m ((c.tc : Thread nD τ).loc main_arg1)) (ix3 (batch t.val) k (pixel (snd (t.val % 15)) p)) := by
  have e : entry m c main_call0_v14 = features (m ((c.tc : Thread nD τ).loc main_arg1)) := features_left _
  rw [← e]
  unfold block
  rw [View.read_apply]
  show entry m c main_call0_v14 _ = _
  congr 1
  obtain ⟨h0, h1, h2⟩ := index_second t
  have hb := batch_val t.isLt
  have hp := pixel_val (B := snd (t.val % 15)) (Nat.mod_lt _ (by norm_num)) p
  exact funext fun a => Fin.ext (match a with
    | ⟨0, _⟩ => by show win0_1.index t 0 * 1 + 1 * 0 = (batch t.val).val; omega
    | ⟨1, _⟩ => by show win0_1.index t 1 * 8 + 1 * k.val = k.val; omega
    | ⟨2, _⟩ => by show win0_1.index t 2 * 1280 + 1 * p.val = (pixel (snd (t.val % 15)) p).val; rw [hp, h2]; omega)

/-- And the state's block. -/
theorem state_read (t : Fin cfg0.N) (ch : Fin 21) (n : Pixel) : block m c 2 t (ix3 0 ch n) =
    (m ((c.tc : Thread nD τ).loc main_arg0)) (stateAt (batch t.val) ch n) := by
  rw [← state_apply (m ((c.tc : Thread nD τ).loc main_arg0))]
  have e : entry m c main_call0_v15 = shapeCast S2x21x6400 (m ((c.tc : Thread nD τ).loc main_arg0)) shapeCasts_S2x21x80x80_S2x21x6400 := state_left _
  rw [← e]
  unfold block
  rw [View.read_apply]
  show entry m c main_call0_v15 _ = _
  congr 1
  obtain ⟨h0, h1, h2⟩ := index_state t
  have hb := batch_val t.isLt
  exact funext fun a => Fin.ext (match a with
    | ⟨0, _⟩ => by show win0_2.index t 0 * 1 + 1 * 0 = (batch t.val).val; omega
    | ⟨1, _⟩ => by show win0_2.index t 1 * 21 + 1 * ch.val = ch.val; omega
    | ⟨2, _⟩ => by show win0_2.index t 2 * 6400 + 1 * n.val = n.val; omega)

/-! ## The output's buffer after each point -/

/-- A channel of the state, one pixel after the other. -/
def channel (b : Fin 2) (ch : Fin 21) (n : Pixel) : EReal := m ((c.tc : Thread nD τ).loc main_arg0) (stateAt b ch n)

variable (y : Fin 2 → Fin 3 → Pixel → ℝ)
  (hy : ∀ b k n, m ((c.tc : Thread nD τ).loc main_arg1) (colourAt b k n) = (y b k n : EReal))

include hy in
/-- One point, from what the buffer held. -/
theorem pointOn_apply (t : Fin cfg0.N) (o : S1x21x6400.Idx → EReal) (ch : Fin 21) (n : Pixel) :
    pointOn m c t o (ix3 0 ch n) = (if t.val % 15 = 0 then 0 else o (ix3 0 ch n)) +
      added (share (y (batch t.val)) (channel m c (batch t.val) ch) n) (n.val / 1280) (t.val % 15) :=
  point_apply (y (batch t.val)) (channel m c (batch t.val)) t _ _ _ o
    (fun k p => (first_read m c t k p).trans (features_apply _ _ _ (hy _) k _))
    (fun k p => (second_read m c t k p).trans (features_apply _ _ _ (hy _) k _))
    (fun ch n => state_read m c t ch n) ch n

include hy in
/-- After point `n` the buffer holds what the batch's points up to `n` have added. -/
theorem left_apply (ch : Fin 21) (p : Pixel) : ∀ (n : ℕ) (hn : n < cfg0.N), left m c n hn (ix3 0 ch p) =
    ∑ r ∈ Finset.range (n % 15 + 1), added (share (y (batch n)) (channel m c (batch n) ch) p) (p.val / 1280) r
  | 0, hn => by
    refine (pointOn_apply m c y hy ⟨0, hn⟩ _ ch p).trans ?_
    rw [if_pos (show (0 : ℕ) % 15 = 0 from rfl), zero_add]
    exact (Finset.sum_range_one _).symm
  | n + 1, hn => by
    refine (pointOn_apply m c y hy ⟨n + 1, hn⟩ _ ch p).trans ?_
    by_cases h : (n + 1) % 15 = 0
    · rw [if_pos h, zero_add]
      simp only [h]
      exact (Finset.sum_range_one _).symm
    · rw [if_neg h, left_apply ch p n (Nat.lt_of_succ_lt hn)]
      have e1 : (n + 1) % 15 = n % 15 + 1 := by omega
      have e2 : batch n = batch (n + 1) := Fin.ext (by show n / 15 % 2 = (n + 1) / 15 % 2; omega)
      simp only [e1, e2]
      exact (Finset.sum_range_succ _ _).symm

include hy in
/-- **After a batch's last point the buffer holds the batch's whole weighted sums.** -/
theorem left_last (n : ℕ) (hn : n < cfg0.N) (h : n % 15 = 14) (ch : Fin 21) (p : Pixel) :
    left m c n hn (ix3 0 ch p) = blurred (y (batch n)) (channel m c (batch n) ch) p := by
  have hp : p.val < 6400 := p.isLt
  rw [left_apply m c y hy ch p n hn, h, added_all _ _ (by omega), share_all]

end Cert.Proof.Blocks

end
-- ==== Proof.Result.lean ====
/-
  The ideal kernel's result at an index, and the reference's: the same weighted sums, when the image is finite.
-/
module

public import proofs.«01_k».proof.Defs
public import proofs.«01_k».proof.Proof.Gen.Pre_image_finite
public import proofs.«01_k».proof.Proof.Gen.ReferenceIdeal.Run
public import proofs.«01_k».proof.Proof.Gen.ReferenceIdeal.Read
public import proofs.«01_k».proof.Proof.Blocks
public import Idealize.ShloMosaic.Lib.KernelVsHost
public import Idealize.ShloMosaic.Lib.ReduceAll

@[expose] public section

set_option maxRecDepth 16384

noncomputable section

namespace Cert.Proof.Result

open Cert.KernelIdeal Cert.KernelIdeal.Gen Cert.Proof.Weights Cert.Proof.Entry Cert.Proof.Blocks
open Cert.Proof.Exact (entryAll entry block left dats dats_A after_3 final run_ends arguments_stay)
open Idealize.ShloMosaic Idealize.ShloMosaic.ValueIdx Idealize.ShloMosaic.TcCoe Idealize.SL.Sem

variable (m : (ℓ : Loc nD τ sig) → Buf (Elt Ideal) ℓ) (c : Dev nD)

/-! ## The kernel's result -/

/-- The blurred state, its pixels in one row. -/
def rows (y : Fin 2 → Fin 3 → Pixel → ℝ) : S2x21x6400.Idx → EReal := fun i => blurred (y (i 0)) (channel m c (i 0) (i 1)) (i 2)

variable (y : Fin 2 → Fin 3 → Pixel → ℝ)
  (hy : ∀ b k n, m ((c.tc : Thread nD τ).loc main_arg1) (colourAt b k n) = (y b k n : EReal))

include hy in
/-- What a batch's last point writes back is that batch of the blurred state. -/
theorem flushed_eq (t : Fin cfg0.N) (hf : (cfg0.win 3).flush t = true) :
    (dats m 0 c).flushed 3 t = ((cfg0.win 3).blk t).view.read (Elt Ideal) (rows m c y) := by
  have ht : t.val % 15 = 14 := (flush0_3 t).mp hf
  show (cfg0.win 3).cut (grid0.coords t) ((dats m 0 c).after 3 t) = _
  rw [after_3]
  funext j
  rw [View.read_apply]
  have e : ∀ j : S1x21x6400.Idx, j = ix3 0 (j 1) (j 2) := fun j => funext fun a => match a with
    | ⟨0, _⟩ => Fin.ext (by have : (j 0).val < 1 := (j 0).isLt; show (j 0).val = 0; omega)
    | ⟨1, _⟩ => rfl
    | ⟨2, _⟩ => rfl
  show left m c t.val t.isLt j = rows m c y _
  rw [e j]
  refine (left_last m c y hy t.val t.isLt ht _ _).trans ?_
  obtain ⟨h0, h1, h2⟩ := index_out t
  have hb := batch_val t.isLt
  show rows m c y (ix3 (batch t.val) (j 1) (j 2)) = _
  congr 1
  exact funext fun a => Fin.ext (match a with
    | ⟨0, _⟩ => by show (batch t.val).val = win0_3.index t 0 * 1 + 1 * 0; omega
    | ⟨1, _⟩ => by show (j 1).val = win0_3.index t 1 * 21 + 1 * (j 1).val; omega
    | ⟨2, _⟩ => by show (j 2).val = win0_3.index t 2 * 6400 + 1 * (j 2).val; omega)

/-- Each block of the output is a whole batch. -/
theorem extent_out : ∀ t : Fin cfg0.N, win0_3.xsize (grid0.coords t) 0 = 1 ∧ win0_3.xsize (grid0.coords t) 1 = 21 ∧
    win0_3.xsize (grid0.coords t) 2 = 6400 := by decide +kernel

include hy in
/-- The region leaves the blurred state in its output array. -/
theorem array_eq : (dats m 0 c).arrAt 3 cfg0.N = rows m c y :=
  (dats m 0 c).arrAt_eq_of_cover 3 (rows m c y) (flushed_eq m c y hy) fun i => by
    have b0 : (i 0 : Nat) < 2 := (i 0).isLt
    have b1 : (i 1 : Nat) < 21 := (i 1).isLt
    have b2 : (i 2 : Nat) < 6400 := (i 2).isLt
    have hN : cfg0.N = 30 := N_0
    have ht : 15 * (i 0 : Nat) + 14 < cfg0.N := by omega
    refine ⟨⟨15 * (i 0 : Nat) + 14, ht⟩, (flush0_3 _).mpr (by show (15 * (i 0 : Nat) + 14) % 15 = 14; omega), ?_⟩
    obtain ⟨h0, h1, h2⟩ := index_out ⟨15 * (i 0 : Nat) + 14, ht⟩
    obtain ⟨x0, x1, x2⟩ := extent_out ⟨15 * (i 0 : Nat) + 14, ht⟩
    generalize htt : (⟨15 * (i 0 : Nat) + 14, ht⟩ : Fin cfg0.N) = t at h0 h1 h2 x0 x1 x2 ⊢
    have hv : t.val = 15 * (i 0 : Nat) + 14 := by rw [← htt]
    show i ∈ ((View.whole main_call0_v16).slice (win0_3.rect t)).set
    rw [View.set_slice_whole, Rect.mem_set_unit]
    intro a
    match a with
    | ⟨0, _⟩ =>
      show win0_3.index t 0 * 1 ≤ (i 0 : Nat) ∧ (i 0 : Nat) < win0_3.index t 0 * 1 + win0_3.xsize (grid0.coords t) 0
      rw [h0, x0, hv]; omega
    | ⟨1, _⟩ =>
      show win0_3.index t 1 * 21 ≤ (i 1 : Nat) ∧ (i 1 : Nat) < win0_3.index t 1 * 21 + win0_3.xsize (grid0.coords t) 1
      rw [h1, x1]; omega
    | ⟨2, _⟩ =>
      show win0_3.index t 2 * 6400 ≤ (i 2 : Nat) ∧ (i 2 : Nat) < win0_3.index t 2 * 6400 + win0_3.xsize (grid0.coords t) 2
      rw [h2, x2]; omega

/-- The last host line cuts the rows of pixels into rows of the picture. -/
theorem tail_eq (V : Valuation τ sig (Elt Ideal)) : StableHlo.after (List.flatten [hostOps1]) V (Proc.devRef .tc main_v0) =
    shapeCast S2x21x80x80 (V (Proc.devRef .tc main_call0_v16)) shapeCasts_S2x21x6400_S2x21x80x80 := by
  after_reads_simp
  rfl

include hy in
/-- **The kernel's result at an index.** -/
theorem kernel_apply (b : Fin 2) (ch : Fin 21) (n : Pixel) :
    final m c main_v0 (stateAt b ch n) = blurred (y b) (channel m c b ch) n := by
  have hn : n.val < 6400 := n.isLt
  have e : Pipeline.withArrays spec0 c (entryAll m c) (fun w => (dats m 0 c).arrAt w cfg0.N) (Proc.devRef .tc main_call0_v16) = rows m c y :=
    ((dats m 0 c).withArrays_arrAt sharedIn0 (entryAll m c) (dats_A m c) 3).trans (array_eq m c y hy)
  unfold final Pipeline.afterTail₀
  refine (congrFun (tail_eq _) _).trans ?_
  refine (congrArg (fun v => shapeCast S2x21x80x80 v shapeCasts_S2x21x6400_S2x21x80x80 (stateAt b ch n)) e).trans ?_
  refine (shapeCast_apply (s := S2x21x6400) (t := S2x21x80x80) _ _ _ (ix3 b ch n) ?_).trans rfl
  rw [Shape.rowMajor_val_three, Shape.rowMajor_val_four]
  show (b.val * 21 + ch.val) * 6400 + n.val = ((b.val * 21 + ch.val) * 80 + n.val / 80) * 80 + n.val % 80
  omega

/-! ## What the precondition gives -/

/-- A value whose absolute value is below the infinity is a real number. -/
theorem real_of_abs (x : EReal) (h : FloatOps.cmpf (F := Ideal) (φ := .f32) .olt (FloatOps.hostAbsf (F := Ideal) (φ := .f32) x)
    (FloatOps.ofBits (F := Ideal) .f32 0x7F800000#32) = 1#1) : x = (x.toReal : EReal) := by
  rw [← Ideal.xori_weird_eq_hostAbsf_olt_inf] at h
  have hx : ¬(x = ⊤ ∨ x = ⊥) := fun e => by
    have h' : IntOp.xori (BitVec.ofBool (decide (x = ⊤ ∨ x = ⊥))) 1#1 = 1#1 := h
    rw [decide_eq_true e] at h'
    exact absurd h' (by decide)
  exact (EReal.coe_toReal (fun e => hx (.inl e)) (fun e => hx (.inr e))).symm

/-- The image's colours, as real numbers. -/
def colours (b : Fin 2) (k : Fin 3) (n : Pixel) : ℝ := (m ((c.tc : Thread nD τ).loc main_arg1) (colourAt b k n) : EReal).toReal

/-- A finite image holds them. -/
theorem colours_eq (hm : Cert.Pre_KernelIdeal_image_finite m) (b : Fin 2) (k : Fin 3) (n : Pixel) :
    m ((c.tc : Thread nD τ).loc main_arg1) (colourAt b k n) = (colours m c b k n : EReal) := by
  haveI : Subsingleton Cert.Pre_image_finite.S_.Idx := ⟨fun a b => funext fun i => i.elim0⟩
  have h := congrFun (hm c) (fun i => i.elim0)
  unfold Cert.Pre_image_finite.fn at h
  exact real_of_abs _ (Host.reduce_andi_all _ _ _ _ _ h (colourAt b k n))

/-! ## The two results -/

/-- Every index of the result is a pixel's. -/
theorem index_eq (i : S2x21x80x80.Idx) : ∃ b ch n, i = stateAt b ch n := by
  have h2 : (i 2).val < 80 := (i 2).isLt
  have h3 : (i 3).val < 80 := (i 3).isLt
  refine ⟨i 0, i 1, ⟨80 * (i 2).val + (i 3).val, by omega⟩, funext fun a => Fin.ext ?_⟩
  match a with
  | ⟨0, _⟩ => rfl
  | ⟨1, _⟩ => rfl
  | ⟨2, _⟩ => show (i 2).val = (80 * (i 2).val + (i 3).val) / 80; omega
  | ⟨3, _⟩ => show (i 3).val = (80 * (i 2).val + (i 3).val) % 80; omega

/-- **The kernel and the reference compute the same array**, of the same arguments with a finite image. -/
theorem results_agree (m' : (ℓ : Loc Cert.ReferenceIdeal.nD Cert.ReferenceIdeal.τ Cert.ReferenceIdeal.sig) → Buf (Elt Ideal) ℓ)
    (hm : Cert.Pre_KernelIdeal_image_finite m)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1)) :
    Cert.ReferenceIdeal.Value.res_main_v82 (F := Ideal) m' c = final m c main_v0 := by
  rw [Cert.ReferenceIdeal.Read.val_main_v82_eq]
  funext i
  obtain ⟨b, ch, n, rfl⟩ := index_eq i
  rw [kernel_apply m c (colours m c) (colours_eq m c hm) b ch n, h0, h1]
  exact Reference.result_apply _ _ (colours m c) (colours_eq m c hm) b ch n

end Cert.Proof.Result

end
-- ==== Proof.lean ====
module

public import proofs.«01_k».proof.Defs
public import proofs.«01_k».proof.Proof.Gen.Pre_image_finite
public import proofs.«01_k».proof.Proof.Gen.ReferenceIdeal.Run
public import proofs.«01_k».proof.Proof.Gen.ReferenceIdeal.Read
public import proofs.«01_k».proof.Proof.PrintedBody
public import proofs.«01_k».proof.Proof.ExactBody
public import proofs.«01_k».proof.Proof.Result
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The reference leaves its arguments as launched and every counter at zero. -/
theorem reference_arguments_stay (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

/-- Each of the two constants that the ideal kernel names in place of a printed word has the value its table gives. -/
theorem constants : Cert.preserves_Kernel_KernelIdeal :=
  ⟨IdealRules.named_const.statement Cert.KernelIdeal.κ "nhalf_log2e" .f32 0xBF38AA3B#32 _ rfl,
   IdealRules.named_const.statement Cert.KernelIdeal.κ "log2e" .f32 0x3FB8AA3B#32 _ rfl⟩

/-- From the same arguments, the image finite, the ideal kernel and the reference end with the same result. -/
theorem values : Cert.algebraic_KernelIdeal_ReferenceIdeal_pre_image_finite := fun m g m' g' hm hag =>
  ⟨fun c => Exact.final m c Cert.KernelIdeal.main_v0,
   (θ_run Cert.KernelIdeal.defs _ _).mono (fun r h c =>
      ⟨(h.1 c).2 Cert.KernelIdeal.main_v0 (by decide),
       ((h.1 c).2 Cert.KernelIdeal.main_arg0 (by decide)).trans (Exact.exit_arg0 m (Exact.dats m) c),
       ((h.1 c).2 Cert.KernelIdeal.main_arg1 (by decide)).trans (Exact.exit_arg1 m (Exact.dats m) c)⟩) (Exact.run_ends m g),
   (θ_run Cert.ReferenceIdeal.defs _ _).mono (fun r h c =>
      ⟨(h c).1.trans (Result.results_agree m c m' hm (hag c).1 (hag c).2), (h c).2⟩)
    (Cert.ReferenceIdeal.Value.run (F := Ideal) m' g')⟩

/-- **The certificate.** -/
theorem claim : Cert.Claim := ⟨Cert.Kernel.Gen.facts, Cert.KernelIdeal.Gen.facts, Cert.ReferenceIdeal.Gen.facts, Cert.Pre_image_finite.Gen.facts,
  fun m g _ => Printed.arguments_stay m g,
  fun m g _ => Exact.arguments_stay m g,
  fun m g _ => Exact.arguments_stay m g,
  fun m g _ => reference_arguments_stay m g,
  fun m g _ => reference_arguments_stay m g,
  constants,
  values⟩

end Cert.Proof

end
